-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S512x512 : Shape := ⟨2, ![512, 512]⟩
abbrev S384x512 : Shape := ⟨2, ![384, 512]⟩
abbrev S15 : Shape := ⟨1, ![15]⟩
abbrev S_ : Shape := ⟨0, ![]⟩
abbrev S512x64 : Shape := ⟨2, ![512, 64]⟩
abbrev S512 : Shape := ⟨1, ![512]⟩
abbrev S512x24 : Shape := ⟨2, ![512, 24]⟩
abbrev S24x256 : Shape := ⟨2, ![24, 256]⟩
abbrev S24x1 : Shape := ⟨2, ![24, 1]⟩
abbrev S24x512 : Shape := ⟨2, ![24, 512]⟩
abbrev S1x256x512 : Shape := ⟨3, ![1, 256, 512]⟩
abbrev S256x512 : Shape := ⟨2, ![256, 512]⟩
abbrev S1 : Shape := ⟨1, ![1]⟩
abbrev S128x384 : Shape := ⟨2, ![128, 384]⟩
abbrev S128x1 : Shape := ⟨2, ![128, 1]⟩
abbrev S128x512 : Shape := ⟨2, ![128, 512]⟩

abbrev nBuf : Space → Nat
  | .hbm => 5
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S4x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S512x512, .f32⟩
  | .local _ .vmem, ⟨4, _⟩ => ⟨S384x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32 : BitVec 32 := 24#32
  let v276 : BitVec 32 := Scalar.muli v2 c24_i32
  let v277 : Index := Scalar.indexCast v276
  let c0_126 : Index := 0#32
  ![v277.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c24_i32_131 : BitVec 32 := 24#32
  let v284 : BitVec 32 := Scalar.muli v2 c24_i32_131
  let c0_i32_136 : BitVec 32 := 0#32
  ![v284.toNat, 0]
def k0_dev16 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_128 : BitVec 32 := 1#32
  let v281 : BitVec 32 := Scalar.addi v2 c1_i32_128
  let c16_i32_129 : BitVec 32 := 16#32
  let v282 : BitVec 32 := Scalar.remsi v281 c16_i32_129
  let c1_i32_134 : BitVec 32 := 1#32
  let v285 : BitVec 32 := Scalar.muli v282 c1_i32_134
  let v286 : BitVec 32 := Scalar.addi c0_i32_135 v285
  v286.toNat
def k0_dev17 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_138 : BitVec 32 := 2#32
  let v293 : BitVec 32 := Scalar.addi v2 c2_i32_138
  let c16_i32_139 : BitVec 32 := 16#32
  let v294 : BitVec 32 := Scalar.remsi v293 c16_i32_139
  let c1_i32_144 : BitVec 32 := 1#32
  let v297 : BitVec 32 := Scalar.muli v294 c1_i32_144
  let v298 : BitVec 32 := Scalar.addi c0_i32_145 v297
  v298.toNat
def k0_dev18 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_148 : BitVec 32 := 3#32
  let v305 : BitVec 32 := Scalar.addi v2 c3_i32_148
  let c16_i32_149 : BitVec 32 := 16#32
  let v306 : BitVec 32 := Scalar.remsi v305 c16_i32_149
  let c1_i32_154 : BitVec 32 := 1#32
  let v309 : BitVec 32 := Scalar.muli v306 c1_i32_154
  let v310 : BitVec 32 := Scalar.addi c0_i32_155 v309
  v310.toNat
def k0_dev19 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_158 : BitVec 32 := 4#32
  let v317 : BitVec 32 := Scalar.addi v2 c4_i32_158
  let c16_i32_159 : BitVec 32 := 16#32
  let v318 : BitVec 32 := Scalar.remsi v317 c16_i32_159
  let c1_i32_164 : BitVec 32 := 1#32
  let v321 : BitVec 32 := Scalar.muli v318 c1_i32_164
  let v322 : BitVec 32 := Scalar.addi c0_i32_165 v321
  v322.toNat
def k0_dev20 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_168 : BitVec 32 := 5#32
  let v329 : BitVec 32 := Scalar.addi v2 c5_i32_168
  let c16_i32_169 : BitVec 32 := 16#32
  let v330 : BitVec 32 := Scalar.remsi v329 c16_i32_169
  let c1_i32_174 : BitVec 32 := 1#32
  let v333 : BitVec 32 := Scalar.muli v330 c1_i32_174
  let v334 : BitVec 32 := Scalar.addi c0_i32_175 v333
  v334.toNat
def k0_dev21 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_178 : BitVec 32 := 6#32
  let v341 : BitVec 32 := Scalar.addi v2 c6_i32_178
  let c16_i32_179 : BitVec 32 := 16#32
  let v342 : BitVec 32 := Scalar.remsi v341 c16_i32_179
  let c1_i32_184 : BitVec 32 := 1#32
  let v345 : BitVec 32 := Scalar.muli v342 c1_i32_184
  let v346 : BitVec 32 := Scalar.addi c0_i32_185 v345
  v346.toNat
def k0_dev22 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_188 : BitVec 32 := 7#32
  let v353 : BitVec 32 := Scalar.addi v2 c7_i32_188
  let c16_i32_189 : BitVec 32 := 16#32
  let v354 : BitVec 32 := Scalar.remsi v353 c16_i32_189
  let c1_i32_194 : BitVec 32 := 1#32
  let v357 : BitVec 32 := Scalar.muli v354 c1_i32_194
  let v358 : BitVec 32 := Scalar.addi c0_i32_195 v357
  v358.toNat
def k0_dev23 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_198 : BitVec 32 := 8#32
  let v365 : BitVec 32 := Scalar.addi v2 c8_i32_198
  let c16_i32_199 : BitVec 32 := 16#32
  let v366 : BitVec 32 := Scalar.remsi v365 c16_i32_199
  let c1_i32_204 : BitVec 32 := 1#32
  let v369 : BitVec 32 := Scalar.muli v366 c1_i32_204
  let v370 : BitVec 32 := Scalar.addi c0_i32_205 v369
  v370.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_208 : BitVec 32 := 9#32
  let v377 : BitVec 32 := Scalar.addi v2 c9_i32_208
  let c16_i32_209 : BitVec 32 := 16#32
  let v378 : BitVec 32 := Scalar.remsi v377 c16_i32_209
  let c1_i32_214 : BitVec 32 := 1#32
  let v381 : BitVec 32 := Scalar.muli v378 c1_i32_214
  let v382 : BitVec 32 := Scalar.addi c0_i32_215 v381
  v382.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_218 : BitVec 32 := 10#32
  let v389 : BitVec 32 := Scalar.addi v2 c10_i32_218
  let c16_i32_219 : BitVec 32 := 16#32
  let v390 : BitVec 32 := Scalar.remsi v389 c16_i32_219
  let c1_i32_224 : BitVec 32 := 1#32
  let v393 : BitVec 32 := Scalar.muli v390 c1_i32_224
  let v394 : BitVec 32 := Scalar.addi c0_i32_225 v393
  v394.toNat
def k0_dev26 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_228 : BitVec 32 := 11#32
  let v401 : BitVec 32 := Scalar.addi v2 c11_i32_228
  let c16_i32_229 : BitVec 32 := 16#32
  let v402 : BitVec 32 := Scalar.remsi v401 c16_i32_229
  let c1_i32_234 : BitVec 32 := 1#32
  let v405 : BitVec 32 := Scalar.muli v402 c1_i32_234
  let v406 : BitVec 32 := Scalar.addi c0_i32_235 v405
  v406.toNat
def k0_dev27 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_238 : BitVec 32 := 12#32
  let v413 : BitVec 32 := Scalar.addi v2 c12_i32_238
  let c16_i32_239 : BitVec 32 := 16#32
  let v414 : BitVec 32 := Scalar.remsi v413 c16_i32_239
  let c1_i32_244 : BitVec 32 := 1#32
  let v417 : BitVec 32 := Scalar.muli v414 c1_i32_244
  let v418 : BitVec 32 := Scalar.addi c0_i32_245 v417
  v418.toNat
def k0_dev28 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_248 : BitVec 32 := 13#32
  let v425 : BitVec 32 := Scalar.addi v2 c13_i32_248
  let c16_i32_249 : BitVec 32 := 16#32
  let v426 : BitVec 32 := Scalar.remsi v425 c16_i32_249
  let c1_i32_254 : BitVec 32 := 1#32
  let v429 : BitVec 32 := Scalar.muli v426 c1_i32_254
  let v430 : BitVec 32 := Scalar.addi c0_i32_255 v429
  v430.toNat
def k0_dev29 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_258 : BitVec 32 := 14#32
  let v437 : BitVec 32 := Scalar.addi v2 c14_i32_258
  let c16_i32_259 : BitVec 32 := 16#32
  let v438 : BitVec 32 := Scalar.remsi v437 c16_i32_259
  let c1_i32_264 : BitVec 32 := 1#32
  let v441 : BitVec 32 := Scalar.muli v438 c1_i32_264
  let v442 : BitVec 32 := Scalar.addi c0_i32_265 v441
  v442.toNat
def k0_dev30 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_268 : BitVec 32 := 15#32
  let v449 : BitVec 32 := Scalar.addi v2 c15_i32_268
  let c16_i32_269 : BitVec 32 := 16#32
  let v450 : BitVec 32 := Scalar.remsi v449 c16_i32_269
  let c1_i32_274 : BitVec 32 := 1#32
  let v453 : BitVec 32 := Scalar.muli v450 c1_i32_274
  let v454 : BitVec 32 := Scalar.addi c0_i32_275 v453
  v454.toNat
def k0_off3 (d0 : Dev nD) (c1_i32_293 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_292 : BitVec 32 := 16#32
  let v545 : BitVec 32 := Scalar.addi v2 c16_i32_292
  let v546 : BitVec 32 := Scalar.subi v545 c1_i32_293
  let c16_i32_294 : BitVec 32 := 16#32
  let v547 : BitVec 32 := Scalar.remsi v546 c16_i32_294
  let c24_i32_296 : BitVec 32 := 24#32
  let v549 : BitVec 32 := Scalar.muli v547 c24_i32_296
  let c0_i32_301 : BitVec 32 := 0#32
  ![v549.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1x512 : Shape := ⟨2, ![1, 512]⟩
abbrev S512x512 : Shape := ⟨2, ![512, 512]⟩
abbrev S_ : Shape := ⟨0, ![]⟩
abbrev S512x256x512 : Shape := ⟨3, ![512, 256, 512]⟩

abbrev nBuf : Space → Nat
  | .hbm => 47
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S512, .i32⟩
  | .hbm, ⟨5, _⟩ => ⟨S512, .i32⟩
  | .hbm, ⟨6, _⟩ => ⟨S1x512, .i32⟩
  | .hbm, ⟨7, _⟩ => ⟨S512x1, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S1x512, .i32⟩
  | .hbm, ⟨12, _⟩ => ⟨S512x1, .i32⟩
  | .hbm, ⟨13, _⟩ => ⟨S512x512, .i32⟩
  | .hbm, ⟨14, _⟩ => ⟨S512x512, .i32⟩
  | .hbm, ⟨15, _⟩ => ⟨S512x512, .i1⟩
  | .hbm, ⟨16, _⟩ => ⟨S512x512, .i1⟩
  | .hbm, ⟨17, _⟩ => ⟨S512x512, .i32⟩
  | .hbm, ⟨18, _⟩ => ⟨S_, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S512x256x512, .f32⟩
  | .hbm, ⟨40, _⟩ => ⟨S512x512, .f32⟩
  | .hbm, ⟨41, _⟩ => ⟨S512x1, .i1⟩
  | .hbm, ⟨42, _⟩ => ⟨S_, .f32⟩
  | .hbm, ⟨43, _⟩ => ⟨S_, .f32⟩
  | .hbm, ⟨44, _⟩ => ⟨S512x512, .i1⟩
  | .hbm, ⟨45, _⟩ => ⟨S512x512, .f32⟩
  | .hbm, ⟨46, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Protocol.lean ====
/-
# The exchange between the sixteen devices, written down

Device `c` first signals every other device's barrier semaphore, handing device `d` the block of its own landing
array that `d` will write. After waiting for the fifteen signals of the others it copies its own block of rows
(`Gall` at the rows `24 c … 24 c + 23`) into that same block of every other device's array, and waits for the
fifteen blocks of the others. Every block of every device ends holding the same array `Gall`, so all contents here
are stated by that one array, read at the block in question.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic
public import Idealize.ShloMosaic.Lib.ValueIdxCore

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The other fifteen devices, numbered by distance -/

set_option backward.proofsInPublic true in
/-- The device `j + 1` places after `c`. -/
def fwd (c : Dev nD) (j : Fin 15) : Dev nD := ⟨(c.val + (j.val + 1)) % 16, Nat.mod_lt _ (by decide)⟩
set_option backward.proofsInPublic true in
/-- The device `j + 1` places before `c`. -/
def bwd (c : Dev nD) (j : Fin 15) : Dev nD := ⟨(c.val + 15 - j.val) % 16, Nat.mod_lt _ (by decide)⟩

theorem bwd_fwd (c : Dev nD) (j : Fin 15) : bwd (fwd c j) j = c := by revert c j; decide
theorem fwd_bwd (c : Dev nD) (j : Fin 15) : fwd (bwd c j) j = c := by revert c j; decide
theorem bwd_rev (c : Dev nD) (j : Fin 15) : bwd c (Fin.rev j) = fwd c j := by revert c j; decide

theorem fwd_inj (c : Dev nD) : Function.Injective (fwd c) := by
  intro j j' h; revert c j j'; decide
theorem bwd_inj (c : Dev nD) : Function.Injective (bwd c) := by
  intro j j' h; revert c j j'; decide
theorem erase_fwd (c : Dev nD) : (Finset.univ.erase c : Finset (Dev nD)) = Finset.univ.map ⟨fwd c, fwd_inj c⟩ := by
  rw [Finset.map_eq_image]; revert c; decide
theorem erase_bwd (c : Dev nD) : (Finset.univ.erase c : Finset (Dev nD)) = Finset.univ.map ⟨bwd c, bwd_inj c⟩ := by
  rw [Finset.map_eq_image]; revert c; decide

/-- Stepping `j + 1` places is a bijection of the devices. -/
def hop (j : Fin 15) : Dev nD ≃ Dev nD := ⟨fun c => fwd c j, fun c => bwd c j, fun c => bwd_fwd c j, fun c => fwd_bwd c j⟩

/-! ## The arrays and semaphores -/

abbrev xM : Memref sig .tc .vmem S512x256 .f32 := Memref.whole cc0_stg0_0
abbrev iM : Memref sig .tc .vmem S512x1 .i32 := Memref.whole cc0_stg1_0
abbrev wM : Memref sig .tc .vmem S4x256x512 .f32 := Memref.whole cc0_stg2_0
abbrev oM : Memref sig .tc .vmem S512x512 .f32 := Memref.whole cc0_stg3_0
abbrev gM : Memref sig .tc .vmem S384x512 .bf16 := Memref.whole cc0_scratch0

theorem blk_inb (b : Dev nD) : ∀ a, (![24 * b.val, 0] : Fin 2 → Nat) a + S24x512.size a ≤ S384x512.size a := by
  revert b; decide

/-- The rows `24 b … 24 b + 23`. -/
abbrev blkR (b : Dev nD) : Rect S384x512 := Rect.unit (s := S384x512) ![24 * b.val, 0] S24x512.size (blk_inb b)
/-- Block `b` of the gathered array. -/
abbrev blkM (b : Dev nD) : Memref sig .tc .vmem S24x512 .bf16 := gM.slice (blkR b) (fun _ => rfl)

abbrev barS : Sem sig := (SemArray.scalar (sig.barrier 0 rfl) : Sems sig S_).sem
set_option backward.proofsInPublic true in
def sendS (j : Fin 15) : DmaSem sig := (⟨4 + j.val, by show 4 + j.val < 34; omega⟩ : Fin 34)
set_option backward.proofsInPublic true in
def recvS (j : Fin 15) : DmaSem sig := (⟨19 + j.val, by show 19 + j.val < 34; omega⟩ : Fin 34)

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own (scoped) semaphores: fifteen for sending, fifteen for receiving; -/
abbrev osem : Fin 15 ⊕ Fin 15 → SemLoc sig := fun | .inl j => .dma (sendS j) | .inr j => .dma (recvS j)
/-- and with the barrier semaphore, all of the exchange's. -/
abbrev CI : Type := Unit ⊕ (Fin 15 ⊕ Fin 15)
abbrev csem : CI → SemLoc sig := fun | .inl _ => .reg barS | .inr k => osem k
abbrev kcell (ck : Dev nD × CI) : GSem nD τ sig := ((ck.1 : Thread nD τ), csem ck.2)

/-- The credit one block's transfer pays. -/
abbrev N : ℕ := (blkM 0).view.dmaCredit
theorem N_pos : 0 < N := View.dmaCredit_pos _ (by decide)
theorem N_eq (b : Dev nD) : (blkM b).view.dmaCredit = N := rfl

/-! ## Contents -/

/-- The tokens `x` as staged on device `c`; -/
def xs (c : Dev nD) : (cc0_stg0_0 : Ref sig .tc).ty.Contents (Elt F) :=
  (win0_0.blk (0 : Fin 1)).view.read (Elt F) ((s₀ m ρ).mem ((c : Thread nD τ).loc main_arg0))
/-- the tokens' expert numbers; -/
def rs (c : Dev nD) : (cc0_stg1_0 : Ref sig .tc).ty.Contents (Elt F) :=
  (win0_1.blk (0 : Fin 1)).view.read (Elt F) ((s₀ m ρ).mem ((c : Thread nD τ).loc main_arg2))
/-- device `c`'s four expert matrices. -/
def ws (c : Dev nD) : (cc0_stg2_0 : Ref sig .tc).ty.Contents (Elt F) :=
  (win0_2.blk (0 : Fin 1)).view.read (Elt F) ((s₀ m ρ).mem ((c : Thread nD τ).loc main_arg3))

/-- Device `c`'s expert matrix `k` as loaded. -/
def wk0 (c : Dev nD) : Vec F S1x256x512 .f32 :=
  wM.view.readAt (Elt F) (Rect.unit (s := S4x256x512) ![0, 0, 0] S1x256x512.size inb_S4x256x512_S1x256x512_0_0_0).toLoadRect (ws m ρ c)
def wk1 (c : Dev nD) : Vec F S1x256x512 .f32 :=
  wM.view.readAt (Elt F) (Rect.unit (s := S4x256x512) ![1, 0, 0] S1x256x512.size inb_S4x256x512_S1x256x512_1_0_0).toLoadRect (ws m ρ c)
def wk2 (c : Dev nD) : Vec F S1x256x512 .f32 :=
  wM.view.readAt (Elt F) (Rect.unit (s := S4x256x512) ![2, 0, 0] S1x256x512.size inb_S4x256x512_S1x256x512_2_0_0).toLoadRect (ws m ρ c)
def wk3 (c : Dev nD) : Vec F S1x256x512 .f32 :=
  wM.view.readAt (Elt F) (Rect.unit (s := S4x256x512) ![3, 0, 0] S1x256x512.size inb_S4x256x512_S1x256x512_3_0_0).toLoadRect (ws m ρ c)

/-- The device's number as the kernel computes it. -/
def word (c : Dev nD) : BitVec 32 := Scalar.remsi (Scalar.divsi (Dev.word c) 1#32) 16#32
/-- The device's twenty-four slots' experts. -/
def slotE (c : Dev nD) : IVec S512x24 32 :=
  k0_pay3 (iota .tc S512x24 32 [1] iota_S512x24_d1_w32) (Scalar.muli (word c) 4#32)
/-- The device's gathered tokens. -/
def slotX (c : Dev nD) : FVec F S24x256 .f32 :=
  k0_pay6 (k0_pay2 (rs m ρ c)) (slotE c) (k0_pay4 (F := F) (iota .tc S512x24 32 [1] iota_S512x24_d1_w32)) (k0_pay5 (k0_pay1 (F := F) (rs m ρ c))) (xs m ρ c)
abbrev rowI : IVec S24x1 32 := iota .tc S24x1 32 [0] iota_S24x1_d0_w32
/-- The running sum after expert 0, -/
def acc0 (c : Dev nD) : FVec F S24x512 .f32 :=
  k0_pay8 (k0_pay2 (rs m ρ c)) (slotE c) (k0_pay4 (F := F) (iota .tc S512x24 32 [1] iota_S512x24_d1_w32)) (k0_pay5 (k0_pay1 (F := F) (rs m ρ c))) (xs m ρ c) (wk0 m ρ c)
/-- after expert 1, -/
def acc1 (c : Dev nD) : FVec F S24x512 .f32 := k0_pay9 (slotX m ρ c) rowI (k0_pay7 (F := F)) (acc0 m ρ c) (wk1 m ρ c)
/-- after expert 2. -/
def acc2 (c : Dev nD) : FVec F S24x512 .f32 :=
  k0_pay12 (slotX m ρ c) rowI (acc1 m ρ c) 6#32 (k0_pay10 rowI) (k0_pay11 rowI) 0#32 (wk2 m ρ c)
/-- Device `c`'s block of rows. -/
def blkC (c : Dev nD) : FVec F S24x512 .bf16 :=
  k0_pay15 (slotX m ρ c) (acc2 m ρ c) (k0_pay13 rowI) (k0_pay14 rowI) (wk3 m ρ c)

/-- The gathered array: row `24 b + r` is row `r` of device `b`'s block. -/
def Gall : (cc0_scratch0 : Ref sig .tc).ty.Contents (Elt F) := fun i : S384x512.Idx =>
  blkC m ρ (⟨(i 0).val / 24, by have h : (i 0).val < 384 := (i 0).isLt; show _ < 16; omega⟩ : Fin 16)
    (ix2 ⟨(i 0).val % 24, Nat.mod_lt _ (by decide)⟩ ⟨(i 1).val, (i 1).isLt⟩)

end Cert.KProof

end
-- ==== Proof.Sched.lean ====
/-
# The blocks of the landing array, and the schedule of the exchange

Points-tos over one block; that every write of a block leaves it holding `Gall`; the duties, amounts and payloads of
the exchange's cells; what a device owes at launch; the levels.
-/
module

public import proofs.«01_k».proof.Proof.Protocol

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## Blocks -/

/-- The elements of block `b`. -/
def blkI (b : Dev nD) : Finset S384x512.Idx := (blkR b).set
theorem blk_set (b : Dev nD) : (blkM b).view.set = blkI b := View.set_slice_whole _ _

theorem blk_disjoint (b b' : Dev nD) (h : b ≠ b') : Disjoint (blkI b) (blkI b') :=
  Ring.lead_disjoint (s := S384x512) (NB := 16) 0 24 (fun b => ![24 * b.val, 0]) S24x512.size blk_inb (fun _ => rfl) rfl b b' h

theorem blk_cover : Finset.univ.biUnion blkI = Finset.univ :=
  Ring.lead_cover (s := S384x512) (NB := 16) 0 24 (fun b => ![24 * b.val, 0]) S24x512.size blk_inb (fun _ => rfl)
    (fun b a ha => by fin_cases a; · exact absurd rfl ha
                      · rfl) rfl (fun a ha => by fin_cases a; · exact absurd rfl ha
                                                 · rfl) (by decide)

/-- Block `b` of the gathered array is what device `b` computed. -/
theorem read_Gall (b : Dev nD) : (blkM b).view.read (Elt F) (Gall m ρ) = blkC m ρ b := by
  funext x
  rw [View.read_apply]
  have h0 : (x 0).val < 24 := (x 0).isLt
  show blkC m ρ _ _ = _
  have e0 : ((blkM b).view.emb x 0).val = 24 * b.val + 1 * (x 0).val := rfl
  have e1 : ((blkM b).view.emb x 1).val = 0 + 1 * (x 1).val := rfl
  have hb : (⟨((blkM b).view.emb x 0).val / 24, by rw [e0]; have hb : b.val < 16 := b.isLt; show _ / 24 < 16; omega⟩ : Fin 16) = b := Fin.ext (by show _ / 24 = _; rw [e0]; omega)
  have hx : (ix2 ⟨((blkM b).view.emb x 0).val % 24, Nat.mod_lt _ (by decide)⟩ ⟨((blkM b).view.emb x 1).val, ((blkM b).view.emb x 1).isLt⟩ : S24x512.Idx) = x := by
    funext a; apply Fin.ext; fin_cases a
    · show ((blkM b).view.emb x 0).val % 24 = _; rw [e0]; show _ = (x 0).val; omega
    · show ((blkM b).view.emb x 1).val = (x 1).val; rw [e1]; omega
  exact congr (congrArg (blkC m ρ) hb) hx

/-- Writing device `b`'s block of rows over block `b` leaves `Gall` there, whatever was there before. -/
theorem write_blk (b : Dev nD) (f : (cc0_scratch0 : Ref sig .tc).ty.Contents (Elt F)) :
    ∀ i ∈ (blkM b).view.set, (blkM b).view.write (Elt F) f (blkC m ρ b) Finset.univ i = Gall m ρ i := by
  intro i hi
  obtain ⟨x, -, rfl⟩ := Finset.mem_map.mp hi
  rw [View.write_emb_of_mem _ _ (Finset.mem_univ _), ← read_Gall m ρ b]
  rfl

/-- Block `b` of device `c`'s landing array, held at share `q` with contents `f`. -/
def blkPts (c b : Dev nD) (q : PosShare TreeShare) (f : (cc0_scratch0 : Ref sig .tc).ty.Contents (Elt F)) : sProp 𝕄 :=
  (blkM b).view.loc (c : Thread nD τ) ↦[(blkM b).view.set]{q} f

omit [FloatOps F] in
instance blkPts_storable (c b : Dev nD) (q f) : BI.Storable (upEmb : UEmb _ 𝕄) (blkPts (F := F) c b q f) := by unfold blkPts; infer_instance

theorem blkPts_write (c b : Dev nD) (q) (f : (cc0_scratch0 : Ref sig .tc).ty.Contents (Elt F)) :
    blkPts c b q ((blkM b).view.write (Elt F) f (blkC m ρ b) Finset.univ) = blkPts c b q (Gall m ρ) := by
  unfold blkPts; exact pointsTo_congr (write_blk m ρ b f)

omit [FloatOps F] in
/-- The whole landing array is its sixteen blocks. -/
theorem blkPts_all (c : Dev nD) (q : PosShare TreeShare) (f : (cc0_scratch0 : Ref sig .tc).ty.Contents (Elt F)) :
    ((((c : Thread nD τ).loc cc0_scratch0) ↦{q} f : sProp 𝕄)) = bigSep Finset.univ fun b : Dev nD => blkPts c b q f := by
  rw [Ring.pointsTo_blocks (ℓ := (c : Thread nD τ).loc cc0_scratch0) (q := q) blkI blk_disjoint blk_cover f]
  exact bigSep_congr fun b _ => by unfold blkPts; rw [blk_set]

omit [FloatOps F] in
/-- A family over the devices is the one at `c` and those at the devices after `c`; -/
theorem bigSep_fwd (c : Dev nD) (Φ : Dev nD → sProp 𝕄) :
    bigSep Finset.univ Φ = iprop(Φ c ∗ bigSep Finset.univ fun j : Fin 15 => Φ (fwd c j)) := by
  rw [bigSep_univ_at _ c, erase_fwd, bigSep_map]; rfl
omit [FloatOps F] in
/-- or at the devices before. -/
theorem bigSep_bwd (c : Dev nD) (Φ : Dev nD → sProp 𝕄) :
    bigSep Finset.univ Φ = iprop(Φ c ∗ bigSep Finset.univ fun j : Fin 15 => Φ (bwd c j)) := by
  rw [bigSep_univ_at _ c, erase_bwd, bigSep_map]; rfl
omit [FloatOps F] in
theorem bigSep_rev (c : Dev nD) (Φ : Dev nD → sProp 𝕄) :
    (bigSep Finset.univ fun j : Fin 15 => Φ (bwd c j)) = bigSep Finset.univ fun j : Fin 15 => Φ (fwd c j) := by
  rw [bigSep_univ_equiv Fin.revPerm (fun j : Fin 15 => Φ (bwd c j))]
  exact bigSep_congr fun j _ => by rw [Fin.revPerm_apply, bwd_rev]

/-! ## The schedule -/

/-- The share of its own block a device lends to its transfer number `j`, and what it keeps. -/
abbrev tok (j : Fin 15) : PosShare TreeShare := Transfers.shareTok fullShare 15 j
abbrev rem : PosShare TreeShare := Transfers.shareDrop fullShare 15

/-- What the signal numbered `j` hands device `d`: block `d` of the signalling device's array. -/
def barPay (d : Dev nD) (j : Fin 15) : sProp 𝕄 := iprop(∃ f, blkPts (bwd d j) d fullShare f)
/-- What the landing of transfer `j` hands device `d`: the sender's block, holding the sender's rows. -/
def recvPay (d : Dev nD) (j : Fin 15) : sProp 𝕄 := blkPts d (bwd d j) fullShare (Gall m ρ)
/-- What the completed sending of transfer `j` hands back: the share of the own block it was lent. -/
def sendPay (c : Dev nD) (j : Fin 15) : sProp 𝕄 := blkPts c c (tok j) (Gall m ρ)

set_option backward.proofsInPublic true in
/-- The transfer number a semaphore of the receive array stands for, -/
def rIx (s : DmaSem sig) : Fin 15 := ⟨((s : Fin 34).val - 19) % 15, Nat.mod_lt _ (by decide)⟩
set_option backward.proofsInPublic true in
/-- and one of the send array. -/
def sIx (s : DmaSem sig) : Fin 15 := ⟨((s : Fin 34).val - 4) % 15, Nat.mod_lt _ (by decide)⟩
theorem rIx_recvS (j : Fin 15) : rIx (recvS j) = j := by revert j; decide
theorem sIx_sendS (j : Fin 15) : sIx (sendS j) = j := by revert j; decide
/-- The receive array's semaphores. -/
abbrev IsR (s : DmaSem sig) : Prop := 19 ≤ (s : Fin 34).val
theorem isR_recvS (j : Fin 15) : IsR (recvS j) := by revert j; decide
theorem not_isR_sendS (j : Fin 15) : ¬ IsR (sendS j) := by revert j; decide

/-- One round: a barrier cell has fifteen duties of one unit, one from each other device; a send or receive cell one
    duty of a block's credit. -/
def xRd : Rounds.Schedule (GSem nD τ sig) (Fin 15) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma s => if IsR s then recvPay m ρ g.1.1 (rIx s) else sendPay m ρ g.1.1 (sIx s)
  amount_pos g _ _ _ := by
    split
    · exact Nat.one_pos
    · exact N_pos

instance xRd_payload_storable (g : GSem nD τ sig) (r : ℕ) (d : Fin 15) :
    BI.Storable (upEmb : UEmb _ 𝕄) ((xRd (F := F) m ρ).payload g r d) := by
  show BI.Storable upEmb (match g.2 with
    | .reg _ => barPay g.1.1 d
    | .dma s => if IsR s then recvPay m ρ g.1.1 (rIx s) else sendPay m ρ g.1.1 (sIx s))
  unfold barPay recvPay sendPay
  (repeat' split) <;> infer_instance

section Sched
variable (c : Dev nD) (j : Fin 15)

theorem duties_bar : (xRd (F := F) m ρ).duties (barCell c) 0 = Finset.univ := by dsimp only [xRd]; exact if_pos ⟨rfl, rfl⟩
theorem duties_dma (s : DmaSem sig) : (xRd (F := F) m ρ).duties ((c : Thread nD τ), .dma s) 0 = {0} := by dsimp only [xRd]; exact if_pos ⟨rfl, rfl⟩
theorem duties_later (g : GSem nD τ sig) : ∀ r, 1 ≤ r → (xRd (F := F) m ρ).duties g r = ∅ :=
  fun r hr => by dsimp only [xRd]; rw [if_neg fun h => by omega]

theorem amount_bar (d : Fin 15) : (xRd (F := F) m ρ).amount (barCell c) 0 d = 1 := rfl
theorem amount_dma (s : DmaSem sig) (d : Fin 15) : (xRd (F := F) m ρ).amount ((c : Thread nD τ), .dma s) 0 d = N := rfl

theorem expect_bar : (xRd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_dma (s : DmaSem sig) : (xRd (F := F) m ρ).expect ((c : Thread nD τ), .dma s) 0 = N := by
  unfold Schedule.expect Schedule.amountOf; rw [duties_dma, Finset.sum_singleton, amount_dma]

theorem payload_bar (d : Fin 15) : (xRd (F := F) m ρ).payload (barCell c) 0 d = barPay c d := rfl
theorem payload_send (d : Fin 15) : (xRd (F := F) m ρ).payload (sendCell c j) 0 d = sendPay m ρ c j := by
  dsimp only [xRd]; rw [if_neg (not_isR_sendS j), sIx_sendS]
theorem payload_recv (d : Fin 15) : (xRd (F := F) m ρ).payload (recvCell c j) 0 d = recvPay m ρ c j := by
  dsimp only [xRd]; rw [if_pos (isR_recvS j), rIx_recvS]

/-- The barrier round's payloads: block `c` of every other device's array. -/
theorem rest_bar : bigSep ((xRd (F := F) m ρ).duties (barCell c) 0 \ ∅) (fun d => (xRd (F := F) m ρ).payload (barCell c) 0 d)
    = bigSep Finset.univ fun j : Fin 15 => iprop(∃ f, blkPts (F := F) (fwd c j) c fullShare f) := by
  rw [Finset.sdiff_empty, duties_bar]
  exact bigSep_rev (F := F) c (fun d => iprop(∃ f, blkPts d c fullShare f))
theorem rest_send : bigSep ((xRd (F := F) m ρ).duties (sendCell c j) 0 \ ∅) (fun d => (xRd (F := F) m ρ).payload (sendCell c j) 0 d) = sendPay m ρ c j := by
  rw [Finset.sdiff_empty, duties_dma, bigSep_singleton, payload_send]
theorem rest_recv : bigSep ((xRd (F := F) m ρ).duties (recvCell c j) 0 \ ∅) (fun d => (xRd (F := F) m ρ).payload (recvCell c j) 0 d) = recvPay m ρ c j := by
  rw [Finset.sdiff_empty, duties_dma, bigSep_singleton, payload_recv]

end Sched

/-! ## The transfers still to come, and those done -/

/-- The numbers from `k` on; -/
abbrev since (k : ℕ) : Finset (Fin 15) := Finset.univ.filter fun j => k ≤ j.val
/-- the numbers below `k`. -/
abbrev upto (k : ℕ) : Finset (Fin 15) := Finset.univ.filter fun j => j.val < k

theorem since_zero : since 0 = Finset.univ := by decide
theorem since_end : since 15 = ∅ := by decide
theorem upto_zero : upto 0 = ∅ := by decide
theorem upto_end : upto 15 = Finset.univ := by decide
theorem since_step (j : Fin 15) : since j.val = insert j (since (j.val + 1)) := by revert j; decide
theorem since_not (j : Fin 15) : j ∉ since (j.val + 1) := by revert j; decide
theorem upto_step (j : Fin 15) : upto (j.val + 1) = insert j (upto j.val) := by revert j; decide
theorem upto_not (j : Fin 15) : j ∉ upto j.val := by revert j; decide

omit [FloatOps F] in
theorem bigSep_since (j : Fin 15) (Φ : Fin 15 → sProp 𝕄) : bigSep (since j.val) Φ = iprop(Φ j ∗ bigSep (since (j.val + 1)) Φ) := by
  rw [since_step]; exact bigSep_insert (since_not j)
omit [FloatOps F] in
theorem bigSep_upto (j : Fin 15) (Φ : Fin 15 → sProp 𝕄) : bigSep (upto (j.val + 1)) Φ = iprop(Φ j ∗ bigSep (upto j.val) Φ) := by
  rw [upto_step]; exact bigSep_insert (upto_not j)

/-! ## What each device owes at launch; the levels -/

/-- The barrier units device `c` still owes when its first `k` signals are out; -/
def oSig (c : Dev nD) (k : ℕ) : CellTallies nD τ sig Unit := ∑ j ∈ since k, tallyAt (barCell (fwd c j)) () 1
/-- the landings it still owes when its first `k` transfers are out. -/
def oSnd (c : Dev nD) (k : ℕ) : CellTallies nD τ sig Unit := ∑ j ∈ since k, tallyAt (recvCell (fwd c j) j) () N
def O₀ (c : Dev nD) : CellTallies nD τ sig Unit := oSnd c 0 + oSig c 0

theorem oSig_step (c : Dev nD) (j : Fin 15) : oSig c j.val = oSig c (j.val + 1) + tallyAt (barCell (fwd c j)) () 1 := by
  unfold oSig; rw [since_step, Finset.sum_insert (since_not j), add_comm]
theorem oSnd_step (c : Dev nD) (j : Fin 15) : oSnd c j.val = oSnd c (j.val + 1) + tallyAt (recvCell (fwd c j) j) () N := by
  unfold oSnd; rw [since_step, Finset.sum_insert (since_not j), add_comm]
theorem oSig_end (c : Dev nD) : oSig c 15 = 0 := by unfold oSig; rw [since_end, Finset.sum_empty]
theorem oSnd_end (c : Dev nD) : oSnd c 15 = 0 := by unfold oSnd; rw [since_end, Finset.sum_empty]

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if IsR s then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 15) (u : Unit) : lv (recvCell c j) u = 2 := if_pos (isR_recvS j)

theorem sum_tally_pos {S : Finset (Fin 15)} {G : Fin 15 → GSem nD τ sig} {n : ℕ} {g : GSem nD τ sig} {u : Unit}
    (h : 0 < (∑ j ∈ S, tallyAt (G j) () n : CellTallies nD τ sig Unit) g u) : ∃ j, g = G j := by
  by_contra hn
  rw [not_exists] at hn
  rw [Finset.sum_apply, Finsupp.finset_sum_apply, Finset.sum_eq_zero] at h
  · exact Nat.lt_irrefl 0 h
  · intro j _
    rw [tallyAt_apply, if_neg (fun h' => hn j h'.1)]

theorem oSnd_pos {c : Dev nD} {k : ℕ} {g : GSem nD τ sig} {u : Unit} (h : 0 < oSnd c k g u) : ∃ j, g = recvCell (fwd c j) j :=
  sum_tally_pos h
theorem O₀_pos {c : Dev nD} {g : GSem nD τ sig} {u : Unit} (h : 0 < O₀ c g u) :
    (∃ j, g = recvCell (fwd c j) j) ∨ ∃ j, g = barCell (fwd c j) := by
  unfold O₀ at h
  rw [Pi.add_apply, Finsupp.add_apply] at h
  rcases Nat.eq_zero_or_pos (oSnd c 0 g u) with h0 | h0
  · rw [h0, Nat.zero_add] at h; exact .inr (sum_tally_pos h)
  · exact .inl (oSnd_pos h0)

omit [FloatOps F] in
/-- The pipeline's own waits, on staging semaphores, are below everything a device owes. -/
theorem mayWait_stage (c : Dev nD) (q : DmaSem sig) (hq : ¬ IsR q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [if_neg hq])
      (fun g u hg => by
        rcases O₀_pos hg with ⟨j, rfl⟩ | ⟨j, rfl⟩
        · rw [lv_recv]; decide
        · exact Nat.one_pos)
  · rw [MayWait_zero]; iintro -; iempintro

omit [FloatOps F] in
/-- At its barrier wait a device owes landings only, which are above its barrier cell. -/
theorem mayWait_bar (c : Dev nD) :
    (levAts L lv : sProp 𝕄) ⊢ MayWait (c : Thread nD τ) (.reg barS) () (oSnd c 0) :=
  MayOwe.of_cut (L := L) (lev := lv) 1 (fun p hp => by rw [Finset.mem_singleton.mp hp, L_tc]; exact Finset.mem_singleton_self _)
    (fun g u hg => by obtain ⟨j, rfl⟩ := oSnd_pos hg; exact Finset.mem_singleton_self _)
    (fun p hp => by rw [Finset.mem_singleton.mp hp]; exact le_refl 1)
    (fun g u hg => by obtain ⟨j, rfl⟩ := oSnd_pos hg; rw [lv_recv]; decide)

end Cert.KProof

end
-- ==== Proof.Steps.lean ====
/-
# One step of each phase

The rules for one signal, the barrier wait, one transfer, one landing wait and one sending wait, at a symbolic device
`c` and number `j`, each over the state of its phase.
-/
module

public import proofs.«01_k».proof.Proof.Sched

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

abbrev bI : CI := .inl ()
abbrev sI (j : Fin 15) : CI := .inr (.inl j)
abbrev rI (j : Fin 15) : CI := .inr (.inr j)

/-! ## The cells' invariants and reached rounds, which every device knows -/

def records (K : Dev nD × CI → ℕ) : sProp 𝕄 :=
  iprop((bigSep Finset.univ fun ck : Dev nD × CI => cellInv ER (xRd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) :
    (bigSep Finset.univ fun ck : Dev nD × CI => (cellInv ER (xRd m ρ) (K ck) (kcell ck) : sProp 𝕄)) ⊢ cellInv ER (xRd m ρ) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)

theorem rec_inv (K : Dev nD × CI → ℕ) (ck : Dev nD × CI) : records m ρ K ⊢ cellInv ER (xRd m ρ) (K ck) (kcell ck) := by
  unfold records
  iintro ⟨#HI, -⟩
  iapply (inv_at m ρ K ck); iexact HI
theorem rec_reached (K : Dev nD × CI → ℕ) (ck : Dev nD × CI) : records m ρ K ⊢ reached ER (kcell ck) 0 := by
  unfold records
  iintro ⟨-, #HR⟩
  iapply (reached_at ck); iexact HR

/-! ## The phases' states -/

/-- Device `c` owes `O` (whatever it has waited on). -/
def ow (c : Dev nD) (O : CellTallies nD τ sig Unit) : sProp 𝕄 := iprop(∃ W, owes (c : Thread nD τ) O W)

/-- Before signal `k`: the tokens of the signals to come and the blocks they hand over. -/
def sigSt (c : Dev nD) (k : ℕ) : sProp 𝕄 :=
  iprop(ow c (oSnd c 0 + oSig c k)
    ∗ bigSep (since k) fun j => iprop(dutyTok ER (barCell (fwd c j)) 0 j ∗ ∃ f, blkPts (F := F) c (fwd c j) fullShare f))

/-- What transfer `j` takes: its two tokens, the share of the own block it reads, the block it writes. -/
def sndRes (c : Dev nD) (j : Fin 15) : sProp 𝕄 :=
  iprop(dutyTok ER (sendCell c j) 0 0 ∗ dutyTok ER (recvCell (fwd c j) j) 0 0 ∗ blkPts c c (tok j) (Gall m ρ)
    ∗ ∃ f, blkPts (F := F) (fwd c j) c fullShare f)
/-- Before transfer `k`. -/
def sndSt (c : Dev nD) (k : ℕ) : sProp 𝕄 :=
  iprop(ow c (oSnd c k) ∗ (bigSep (since k) fun j => sndRes m ρ c j)
    ∗ bigSep (upto k) fun j => (cred (tallyAt (sendCell c j) () N) : sProp 𝕄))

/-- What the wait for landing `j` takes, and what it gives. -/
def rcvRes (c : Dev nD) (j : Fin 15) : sProp 𝕄 :=
  iprop(cred (tallyAt (recvCell c j) () N) ∗ atPos ER (recvCell c j) 0 ∅ 0)
def rcvDone (c : Dev nD) (j : Fin 15) : sProp 𝕄 :=
  iprop(blkPts c (bwd c j) fullShare (Gall m ρ) ∗ semVal (recvCell c j) 0)
/-- Before landing wait `k`. -/
def rcvSt (c : Dev nD) (k : ℕ) : sProp 𝕄 :=
  iprop(ow c 0 ∗ (bigSep (since k) fun j => rcvRes (F := F) c j) ∗ bigSep (upto k) fun j => rcvDone m ρ c j)

/-- What the wait for sending `j` takes, and what it gives. -/
def swRes (c : Dev nD) (j : Fin 15) : sProp 𝕄 :=
  iprop(cred (tallyAt (sendCell c j) () N) ∗ atPos ER (sendCell c j) 0 ∅ 0)
def swDone (c : Dev nD) (j : Fin 15) : sProp 𝕄 :=
  iprop(blkPts c c (tok j) (Gall m ρ) ∗ semVal (sendCell c j) 0)
/-- Before sending wait `k`. -/
def swSt (c : Dev nD) (k : ℕ) : sProp 𝕄 :=
  iprop(ow c 0 ∗ (bigSep (since k) fun j => swRes (F := F) c j) ∗ bigSep (upto k) fun j => swDone m ρ c j)

/-! ## The steps -/

section Steps

/-- A device's run of `p`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CI → ℕ)

/-- Signal `j`, to the device `n` that is `fwd c j`. -/
theorem step_signal (c n : Dev nD) (j : Fin 15) (a₀ a₁ : ℕ) (h₀ : j.val = a₀) (h₁ : j.val + 1 = a₁) (hn : n = fwd c j) {α : Type} {Q : α → sProp 𝕄}
    {k : PUnit → Prog (TpuEff nD τ sig (Elt F) Λ₀ .tc) α} {a : ℕ} (ha : a = 1) :
    records m ρ K
      ⊢ iprop(sigSt (F := F) c a₀ -∗ (sigSt (F := F) c a₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS a) k) Q) := by
  subst hn ha h₀ h₁
  unfold sigSt ow
  rw [bigSep_since]
  iintro #HR ⟨⟨%W, HO⟩, ⟨Htok, Hblk⟩, Hrest⟩ Hk
  iapply (Rounds.wp_signal 𝒱₀ ER (xRd m ρ) (c : Thread nD τ) none (dst := (fwd c j : Thread nD τ)) (κ := K (fwd c j, bI))
      (d := j) (by rw [duties_bar]; exact Finset.mem_univ _) (amount_bar m ρ (fwd c j) j) () (oSnd c 0 + oSig c (j.val + 1))
      (O₀ := oSnd c 0 + oSig c j.val) (by rw [oSig_step, add_assoc])) $$ [HO Htok Hblk]
  · isplitr; · iapply (rec_inv m ρ K (fwd c j, bI)); iexact HR
    isplitl [HO]; · iexact HO
    isplitl [Htok]; · iexact Htok
    isplitl [Hblk]
    · rw [payload_bar]; unfold barPay; rw [bwd_fwd]; iexact Hblk
    · iapply (rec_reached m ρ K (fwd c j, bI)); iexact HR
  iintro HO
  iapply Hk
  isplitl [HO]; · iexists W; iexact HO
  iexact Hrest

/-- The wait for the fifteen signals: block `c` of every other device comes with them. -/
theorem step_barrier (c : Dev nD) {α : Type} {Q : α → sProp 𝕄}
    {k : PUnit → Prog (TpuEff nD τ sig (Elt F) Λ₀ .tc) α} {a : ℕ} (ha : a = 15) :
    iprop(records m ρ K ∗ levAts L lv ∗ ow (F := F) c (oSnd c 0) ∗ cred (tallyAt (barCell c) () 15) ∗ atPos ER (barCell c) 0 ∅ 0)
      ⊢ iprop((iprop(ow (F := F) c (oSnd c 0) ∗ semVal (barCell c) 0 ∗ bigSep Finset.univ fun j : Fin 15 => iprop(∃ f, blkPts (F := F) (fwd c j) c fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ow
  iintro ⟨#HR, #Hlev, ⟨%W, HO⟩, Hc, Hat⟩ Hk
  iapply (Rounds.wp_wait_rest_token 𝒱₀ ER (xRd m ρ) (c : Thread nD τ) none (κ := K (c, bI))
      (wpE_semWait_eq 𝒱₀ (c : Thread nD τ) none Set.univ) (Set.mem_univ _) () (O := oSnd c 0) (W := W) (R := 0) (m := 0) (T := ∅)
      (by rw [expect_bar])) $$ [Hc HO Hat]
  · isplitr; · iapply (rec_inv m ρ K (c, bI)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (xRd m ρ) (Set.mem_univ (K (c, bI))) (fun h => h) (R := 0 + 1) (duties_later m ρ (barCell c))) $$ [Hat] with Hz
  · isplitr; · iapply (rec_inv m ρ K (c, bI)); iexact HR
    iexact Hat
  iapply Hk
  isplitl [HO]; · iexists _; iexact HO
  isplitl [Hz]; · iexact Hz
  iexact Hp

/-- Transfer `j`, of the own block to the device `n` that is `fwd c j`. -/
theorem step_send (c n : Dev nD) (j : Fin 15) (a₀ a₁ : ℕ) (h₀ : j.val = a₀) (h₁ : j.val + 1 = a₁) (hn : n = fwd c j) {off : Fin 2 → ℕ} (hoff : off = ![24 * c.val, 0])
    {inb₁ inb₂ : ∀ a, off a + S24x512.size a ≤ S384x512.size a} {sS rS : DmaSem sig} (hsS : sS = sendS j) (hrS : rS = recvS j)
    {hst₁ hst₂}
    {hsc : (gM.slice (Rect.unit (s := S384x512) off S24x512.size inb₂) hst₂ : Memref sig (Dev.tc n : Thread nD τ).2.kind .vmem S24x512 .bf16).view.ref.isScScratch = false}
    {hsrc : (gM.slice (Rect.unit (s := S384x512) off S24x512.size inb₁) hst₁ : Memref sig .tc .vmem S24x512 .bf16).view.WordExact}
    {hdst : (gM.slice (Rect.unit (s := S384x512) off S24x512.size inb₂) hst₂ : Memref sig .tc .vmem S24x512 .bf16).view.WordExact}
    {hsem : DmaTarget.Typed .vmem (.dma rS) (.remote (Dev.tc n : Thread nD τ) (gM.slice (Rect.unit (s := S384x512) off S24x512.size inb₂) hst₂ : Memref sig .tc .vmem S24x512 .bf16) (.dma sS) hsc)}
    {α : Type} {Q : α → sProp 𝕄} {k : PUnit → Prog (TpuEff nD τ sig (Elt F) Λ₀ .tc) α} :
    records m ρ K
      ⊢ iprop(sndSt m ρ c a₀ -∗ (sndSt m ρ c a₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S384x512) off S24x512.size inb₁) hst₁)
                (.remote (Dev.tc n : Thread nD τ) (gM.slice (Rect.unit (s := S384x512) off S24x512.size inb₂) hst₂) (.dma sS) hsc) (.dma rS) hsrc hdst hsem) k) Q) := by
  subst hn hoff hsS hrS h₀ h₁
  unfold sndSt ow
  rw [bigSep_since, bigSep_upto]
  unfold sndRes
  iintro #HR ⟨⟨%W, HO⟩, ⟨⟨HtS, HtV, Hsrc, ⟨%fd, Hdst⟩⟩, Hrest⟩, Hdone⟩ Hk
  iapply (Rounds.wp_send_pointsTo 𝒱₀ ER (xRd m ρ) (c : Thread nD τ) none (c' := (fwd c j : Thread nD τ)) (κ₁ := K (c, sI j)) (κ₂ := K (fwd c j, rI j))
      (sS := .dma (sendS j)) (sem := .dma (recvS j)) (src := blkM c) (dst := blkM c) (q := tok j) (fs := Gall m ρ)
      (r₁ := 0) (r₂ := 0) (d₁ := 0) (d₂ := 0) (fd := fd)
      (by rw [duties_dma]; exact Finset.mem_singleton_self _) (by rw [duties_dma]; exact Finset.mem_singleton_self _)
      () () N (N_eq c) (amount_dma m ρ c _ 0) (amount_dma m ρ (fwd c j) _ 0) (oSnd c (j.val + 1)) (oSnd_step c j) (W := W)
      (by rw [payload_send]; exact BI.Entails.refl _)
      (by rw [payload_recv]; unfold recvPay; rw [bwd_fwd, read_Gall]; exact Entails.of_eq (blkPts_write m ρ (fwd c j) c fullShare fd)))
    $$ [HO HtS HtV Hsrc Hdst]
  · isplitr; · iapply (rec_inv m ρ K (c, sI j)); iexact HR
    isplitr; · iapply (rec_inv m ρ K (fwd c j, rI j)); iexact HR
    isplitl [Hsrc]; · unfold blkPts; iexact Hsrc
    isplitl [Hdst]; · unfold blkPts; iexact Hdst
    isplitl [HO]; · iexact HO
    isplitl [HtS]; · iexact HtS
    isplitr; · iapply (rec_reached m ρ K (c, sI j)); iexact HR
    isplitl [HtV]; · iexact HtV
    iapply (rec_reached m ρ K (fwd c j, rI j)); iexact HR
  iintro ⟨Hc, HO⟩
  iapply Hk
  isplitl [HO]; · iexists W; iexact HO
  isplitl [Hrest]; · iexact Hrest
  isplitl [Hc]; · iexact Hc
  iexact Hdone

/-- The wait for landing `j`. -/
theorem step_recv (c : Dev nD) (j : Fin 15) (a₀ a₁ : ℕ) (h₀ : j.val = a₀) (h₁ : j.val + 1 = a₁) {rS : DmaSem sig} (hrS : rS = recvS j) {off : Fin 2 → ℕ}
    {inb₁ inb₂ : ∀ a, off a + S24x512.size a ≤ S384x512.size a} {hst₁ hst₂}
    {hw₁ : (gM.slice (Rect.unit (s := S384x512) off S24x512.size inb₁) hst₁ : Memref sig .tc .vmem S24x512 .bf16).view.WordExact}
    {hw₂ : (gM.slice (Rect.unit (s := S384x512) off S24x512.size inb₂) hst₂ : Memref sig .tc .vmem S24x512 .bf16).view.WordExact}
    {α : Type} {Q : α → sProp 𝕄} {k : PUnit → Prog (TpuEff nD τ sig (Elt F) Λ₀ .tc) α} :
    records m ρ K
      ⊢ iprop(rcvSt m ρ c a₀ -∗ (rcvSt m ρ c a₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 rS (gM.slice (Rect.unit (s := S384x512) off S24x512.size inb₁) hst₁)
                (gM.slice (Rect.unit (s := S384x512) off S24x512.size inb₂) hst₂) hw₁ hw₂) k) Q) := by
  subst hrS h₀ h₁
  unfold rcvSt ow
  rw [bigSep_since, bigSep_upto]
  unfold rcvRes rcvDone
  iintro #HR ⟨⟨%W, HO⟩, ⟨⟨Hc, Hat⟩, Hrest⟩, Hdone⟩ Hk
  iapply (Rounds.wp_wait_rest_token 𝒱₀ ER (xRd m ρ) (c : Thread nD τ) none (κ := K (c, rI j))
      (wpE_waitDma2_eq 𝒱₀ (c : Thread nD τ) none Set.univ) (Set.mem_univ _) () (O := 0) (W := W) (R := 0) (m := 0) (T := ∅)
      (by rw [Nat.zero_add, expect_dma]; rfl)) $$ [Hc HO Hat]
  · isplitr; · iapply (rec_inv m ρ K (c, rI j)); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (xRd m ρ) (Set.mem_univ (K (c, rI j))) (fun h => h) (R := 0 + 1) (duties_later m ρ (recvCell c j))) $$ [Hat] with Hz
  · isplitr; · iapply (rec_inv m ρ K (c, rI j)); iexact HR
    iexact Hat
  iapply Hk
  isplitl [HO]; · iexists _; iexact HO
  isplitl [Hrest]; · iexact Hrest
  isplitl [Hp Hz]
  · isplitl [Hp]; · unfold recvPay; iexact Hp
    iexact Hz
  iexact Hdone

/-- The wait for sending `j`. -/
theorem step_sent (c : Dev nD) (j : Fin 15) (a₀ a₁ : ℕ) (h₀ : j.val = a₀) (h₁ : j.val + 1 = a₁) {sS : DmaSem sig} (hsS : sS = sendS j) {off : Fin 2 → ℕ}
    {inb₁ inb₂ : ∀ a, off a + S24x512.size a ≤ S384x512.size a} {hst₁ hst₂}
    {hw₁ : (gM.slice (Rect.unit (s := S384x512) off S24x512.size inb₁) hst₁ : Memref sig .tc .vmem S24x512 .bf16).view.WordExact}
    {hw₂ : (gM.slice (Rect.unit (s := S384x512) off S24x512.size inb₂) hst₂ : Memref sig .tc .vmem S24x512 .bf16).view.WordExact}
    {α : Type} {Q : α → sProp 𝕄} {k : PUnit → Prog (TpuEff nD τ sig (Elt F) Λ₀ .tc) α} :
    records m ρ K
      ⊢ iprop(swSt m ρ c a₀ -∗ (swSt m ρ c a₁ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (gM.slice (Rect.unit (s := S384x512) off S24x512.size inb₁) hst₁)
                (gM.slice (Rect.unit (s := S384x512) off S24x512.size inb₂) hst₂) hw₁ hw₂) k) Q) := by
  subst hsS h₀ h₁
  unfold swSt ow
  rw [bigSep_since, bigSep_upto]
  unfold swRes swDone
  iintro #HR ⟨⟨%W, HO⟩, ⟨⟨Hc, Hat⟩, Hrest⟩, Hdone⟩ Hk
  iapply (Rounds.wp_wait_rest_token 𝒱₀ ER (xRd m ρ) (c : Thread nD τ) none (κ := K (c, sI j))
      (wpE_waitDma2_eq 𝒱₀ (c : Thread nD τ) none Set.univ) (Set.mem_univ _) () (O := 0) (W := W) (R := 0) (m := 0) (T := ∅)
      (by rw [Nat.zero_add, expect_dma]; rfl)) $$ [Hc HO Hat]
  · isplitr; · iapply (rec_inv m ρ K (c, sI j)); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (xRd m ρ) (Set.mem_univ (K (c, sI j))) (fun h => h) (R := 0 + 1) (duties_later m ρ (sendCell c j))) $$ [Hat] with Hz
  · isplitr; · iapply (rec_inv m ρ K (c, sI j)); iexact HR
    iexact Hat
  iapply Hk
  isplitl [HO]; · iexists _; iexact HO
  isplitl [Hrest]; · iexact Hrest
  isplitl [Hp Hz]
  · isplitl [Hp]; · unfold sendPay; iexact Hp
    iexact Hz
  iexact Hdone

end Steps

end Cert.KProof

end
-- ==== Proof.Local.lean ====
/-
# What a device does to its own memory

The store of its own block, the read of the whole gathered array, the four stores of the result, and how the shares of
the blocks are split and joined around them.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The result's selection matrix for rows 0 … 127; -/
def sel0 (c : Dev nD) : FVec F S128x384 .bf16 :=
  k0_pay21 (k0_pay1 (F := F) (rs m ρ c)) (k0_pay2 (rs m ρ c)) k0_pay16 (Scalar.select (Scalar.cmpi .eq 6#32 0#32) 1#32 6#32) k0_pay17 k0_pay18 k0_pay19
/-- for rows 128 … 255; -/
def sel1 (c : Dev nD) : FVec F S128x384 .bf16 :=
  k0_pay22 (k0_pay1 (F := F) (rs m ρ c)) (k0_pay2 (rs m ρ c)) k0_pay16 (Scalar.select (Scalar.cmpi .eq 6#32 0#32) 1#32 6#32) k0_pay17 k0_pay18 k0_pay19
/-- for rows 256 … 383; -/
def sel2 (c : Dev nD) : FVec F S128x384 .bf16 :=
  k0_pay23 (k0_pay1 (F := F) (rs m ρ c)) (k0_pay2 (rs m ρ c)) k0_pay16 (Scalar.select (Scalar.cmpi .eq 6#32 0#32) 1#32 6#32) k0_pay17 k0_pay18 k0_pay19
/-- for rows 384 … 511. -/
def sel3 (c : Dev nD) : FVec F S128x384 .bf16 :=
  k0_pay24 (k0_pay1 (F := F) (rs m ρ c)) (k0_pay2 (rs m ρ c)) k0_pay16 (Scalar.select (Scalar.cmpi .eq 6#32 0#32) 1#32 6#32) k0_pay17 k0_pay18 k0_pay19

/-- The gathered array as loaded. -/
def gath : Vec F S384x512 .bf16 := Gall m ρ

/-- The four parts of the result, each with where it goes. -/
def piece0 (c : Dev nD) : View.Piece (Elt F) S512x512 .f32 :=
  ⟨Rect.unit (s := S512x512) ![0, 0] S128x512.size inb_S512x512_S128x512_0_0, k0_pay25 (sel0 m ρ c) (gath m ρ)⟩
def piece1 (c : Dev nD) : View.Piece (Elt F) S512x512 .f32 :=
  ⟨Rect.unit (s := S512x512) ![128, 0] S128x512.size inb_S512x512_S128x512_128_0, k0_pay26 (sel1 m ρ c) (gath m ρ)⟩
def piece2 (c : Dev nD) : View.Piece (Elt F) S512x512 .f32 :=
  ⟨Rect.unit (s := S512x512) ![256, 0] S128x512.size inb_S512x512_S128x512_256_0, k0_pay27 (sel2 m ρ c) (gath m ρ)⟩
def piece3 (c : Dev nD) : View.Piece (Elt F) S512x512 .f32 :=
  ⟨Rect.unit (s := S512x512) ![384, 0] S128x512.size inb_S512x512_S128x512_384_0, k0_pay28 (sel3 m ρ c) (gath m ρ)⟩

/-- The result on device `c`, row by row: rows 0 … 127 from the first part, and so on. -/
def outAt (c : Dev nD) : (cc0_stg3_0 : Ref sig .tc).ty.Contents (Elt F) := fun i : S512x512.Idx =>
  let r : S128x512.Idx := ix2 ⟨(i 0).val % 128, Nat.mod_lt _ (by decide)⟩ ⟨(i 1).val, (i 1).isLt⟩
  if (i 0).val < 128 then k0_pay25 (sel0 m ρ c) (gath m ρ) r
  else if (i 0).val < 256 then k0_pay26 (sel1 m ρ c) (gath m ρ) r
  else if (i 0).val < 384 then k0_pay27 (sel2 m ρ c) (gath m ρ) r
  else k0_pay28 (sel3 m ρ c) (gath m ρ) r

theorem piece_row (o : ℕ) (inb : ∀ a, (![o, 0] : Fin 2 → ℕ) a + S128x512.size a ≤ S512x512.size a) (ho : o % 128 = 0) (x : S128x512.Idx) :
    (ix2 ⟨((Rect.unit (s := S512x512) ![o, 0] S128x512.size inb).emb x 0).val % 128, Nat.mod_lt _ (by decide)⟩
      ⟨((Rect.unit (s := S512x512) ![o, 0] S128x512.size inb).emb x 1).val, ((Rect.unit (s := S512x512) ![o, 0] S128x512.size inb).emb x 1).isLt⟩ : S128x512.Idx) = x := by
  have h0 : (x 0).val < 128 := (x 0).isLt
  have e0 : ((Rect.unit (s := S512x512) ![o, 0] S128x512.size inb).emb x 0).val = o + 1 * (x 0).val := rfl
  have e1 : ((Rect.unit (s := S512x512) ![o, 0] S128x512.size inb).emb x 1).val = 0 + 1 * (x 1).val := rfl
  funext a; apply Fin.ext; fin_cases a
  · show ((Rect.unit (s := S512x512) ![o, 0] S128x512.size inb).emb x 0).val % 128 = (x 0).val; rw [e0]; omega
  · show ((Rect.unit (s := S512x512) ![o, 0] S128x512.size inb).emb x 1).val = (x 1).val; rw [e1]; omega

theorem agree (o : ℕ) (inb : ∀ a, (![o, 0] : Fin 2 → ℕ) a + S128x512.size a ≤ S512x512.size a) (ho : o % 128 = 0) (w : FVec F S128x512 .f32)
    (G : S512x512.Idx → Elt F .f32)
    (h : ∀ i : S512x512.Idx, o ≤ (i 0).val → (i 0).val < o + 128 → G i = w (ix2 ⟨(i 0).val % 128, Nat.mod_lt _ (by decide)⟩ ⟨(i 1).val, (i 1).isLt⟩))
    (x : S128x512.Idx) : w x = G ((Rect.unit (s := S512x512) ![o, 0] S128x512.size inb).emb x) := by
  have h0 : (x 0).val < 128 := (x 0).isLt
  have e0 : ((Rect.unit (s := S512x512) ![o, 0] S128x512.size inb).emb x 0).val = o + 1 * (x 0).val := rfl
  rw [h _ (by rw [e0]; omega) (by rw [e0]; omega)]
  exact congrArg w (piece_row o inb ho x).symm

theorem agree0 (c : Dev nD) (x) : (piece0 m ρ c).2 x = outAt m ρ c ((piece0 m ρ c).1.emb x) :=
  agree 0 inb_S512x512_S128x512_0_0 (by decide) (k0_pay25 (sel0 m ρ c) (gath m ρ)) (outAt m ρ c)
    (fun i h1 h2 => if_pos (by omega)) x
theorem agree1 (c : Dev nD) (x) : (piece1 m ρ c).2 x = outAt m ρ c ((piece1 m ρ c).1.emb x) :=
  agree 128 inb_S512x512_S128x512_128_0 (by decide) (k0_pay26 (sel1 m ρ c) (gath m ρ)) (outAt m ρ c)
    (fun i h1 h2 => (if_neg (by omega)).trans (if_pos (by omega))) x
theorem agree2 (c : Dev nD) (x) : (piece2 m ρ c).2 x = outAt m ρ c ((piece2 m ρ c).1.emb x) :=
  agree 256 inb_S512x512_S128x512_256_0 (by decide) (k0_pay27 (sel2 m ρ c) (gath m ρ)) (outAt m ρ c)
    (fun i h1 h2 => (if_neg (by omega)).trans ((if_neg (by omega)).trans (if_pos (by omega)))) x
theorem agree3 (c : Dev nD) (x) : (piece3 m ρ c).2 x = outAt m ρ c ((piece3 m ρ c).1.emb x) :=
  agree 384 inb_S512x512_S128x512_384_0 (by decide) (k0_pay28 (sel3 m ρ c) (gath m ρ)) (outAt m ρ c)
    (fun i h1 h2 => (if_neg (by omega)).trans ((if_neg (by omega)).trans (if_neg (by omega)))) x

theorem cov (o : ℕ) (inb : ∀ a, (![o, 0] : Fin 2 → ℕ) a + S128x512.size a ≤ S512x512.size a) (i : S512x512.Idx)
    (h1 : o ≤ (i 0).val) (h2 : (i 0).val < o + 128) : i ∈ (Rect.unit (s := S512x512) ![o, 0] S128x512.size inb).set := by
  have hi1 : (i 1).val < 512 := (i 1).isLt
  rw [Rect.mem_set_unit]
  intro a; fin_cases a
  · exact ⟨h1, h2⟩
  · exact ⟨Nat.zero_le _, by show (i 1).val < 0 + 512; omega⟩

theorem covered (c : Dev nD) (i : S512x512.Idx) : ∃ p ∈ [piece3 m ρ c, piece2 m ρ c, piece1 m ρ c, piece0 m ρ c], i ∈ p.1.set := by
  have hi : (i 0).val < 512 := (i 0).isLt
  by_cases h1 : (i 0).val < 128
  · exact ⟨piece0 m ρ c, .tail _ (.tail _ (.tail _ (.head _))), cov 0 inb_S512x512_S128x512_0_0 i (Nat.zero_le _) (by omega)⟩
  by_cases h2 : (i 0).val < 256
  · exact ⟨piece1 m ρ c, .tail _ (.tail _ (.head _)), cov 128 inb_S512x512_S128x512_128_0 i (by omega) (by omega)⟩
  by_cases h3 : (i 0).val < 384
  · exact ⟨piece2 m ρ c, .tail _ (.head _), cov 256 inb_S512x512_S128x512_256_0 i (by omega) (by omega)⟩
  · exact ⟨piece3 m ρ c, .head _, cov 384 inb_S512x512_S128x512_384_0 i (by omega) (by omega)⟩

theorem read_out (c : Dev nD) (f : (cc0_stg3_0 : Ref sig .tc).ty.Contents (Elt F)) :
    oM.view.read (Elt F) (oM.view.writes (Elt F) f [piece3 m ρ c, piece2 m ρ c, piece1 m ρ c, piece0 m ρ c]) = outAt m ρ c :=
  funext fun i => View.read_writes_apply_of_pieces oM.view f (outAt m ρ c) [piece3 m ρ c, piece2 m ρ c, piece1 m ρ c, piece0 m ρ c]
    (fun p hp => by
      rcases List.mem_cons.mp hp with rfl | hp
      · exact agree3 m ρ c
      rcases List.mem_cons.mp hp with rfl | hp
      · exact agree2 m ρ c
      rcases List.mem_cons.mp hp with rfl | hp
      · exact agree1 m ρ c
      rcases List.mem_cons.mp hp with rfl | hp
      · exact agree0 m ρ c
      · exact absurd hp List.not_mem_nil)
    i (covered m ρ c i)

theorem read_oM (f : (cc0_stg3_0 : Ref sig .tc).ty.Contents (Elt F)) : oM.view.read (Elt F) f = f := View.read_whole _ _

/-- The four stores leave the result, whatever was there before. -/
theorem writes_out (c : Dev nD) (f : (cc0_stg3_0 : Ref sig .tc).ty.Contents (Elt F)) :
    oM.view.writes (Elt F) f [piece3 m ρ c, piece2 m ρ c, piece1 m ρ c, piece0 m ρ c] = outAt m ρ c :=
  (read_oM _).symm.trans (read_out m ρ c f)

/-! ## The own block -/

theorem step_store (c : Dev nD) {off : Fin 2 → ℕ} (hoff : off = ![24 * c.val, 0]) {inb : ∀ a, off a + S24x512.size a ≤ S384x512.size a}
    {w : FVec F S24x512 .bf16} (hw : w = blkC m ρ c)
    {hx : (gM.access (Rect.unit (s := S384x512) off S24x512.size inb)).Stores Finset.univ} {hm}
    {α : Type} {Q : α → sProp 𝕄} {k : PUnit → Prog (TpuEff nD τ sig (Elt F) Λ₀ .tc) α} :
    iprop(∃ f, blkPts (F := F) c c fullShare f) ⊢ iprop((blkPts c c fullShare (Gall m ρ) -∗ wpc c (k ⟨⟩) Q)
      -∗ wpc c (.op (.store gM (Rect.unit (s := S384x512) off S24x512.size inb) w Finset.univ hx hm) k) Q) := by
  subst hoff hw
  iintro ⟨%f, Hf⟩ Hk
  ihave Hf := (Entails.of_eq (show blkPts (F := F) c c fullShare f = ((blkM c).view.loc (c : Thread nD τ) ↦[(blkM c).view.set]{fullShare} f) from rfl)) $$ Hf
  iapply (wp_store 𝒱₀ (c : Thread nD τ) none Set.univ (m := gM) (r := blkR c) (Mk := Finset.univ) (S := (blkM c).view.set) (f := f) (by exact Finset.Subset.refl _)) $$ Hf
  iintro Hf
  iapply Hk
  iapply (Entails.of_eq (blkPts_write m ρ c c fullShare f))
  unfold blkPts
  iexact Hf

theorem step_peek (c : Dev nD) {off : Fin 2 → ℕ} (hoff : off = ![24 * c.val, 0]) {inb : ∀ a, off a + S24x512.size a ≤ S384x512.size a}
    {hl : gM.view.LoadsAt (Rect.unit (s := S384x512) off S24x512.size inb).toLoadRect}
    {α : Type} {Q : α → sProp 𝕄} {k : (S24x512.Idx → Elt F .bf16) → Prog (TpuEff nD τ sig (Elt F) Λ₀ .tc) α} :
    iprop(∃ f, blkPts (F := F) c c fullShare f) ⊢ iprop((∀ v, (∃ f, blkPts (F := F) c c fullShare f) -∗ wpc c (k v) Q)
      -∗ wpc c (.op (.load gM (Rect.unit (s := S384x512) off S24x512.size inb).toLoadRect hl) k) Q) := by
  subst hoff
  iintro ⟨%f, Hf⟩ Hk
  unfold blkPts
  iapply (wp_load 𝒱₀ (c : Thread nD τ) none Set.univ (m := gM) (r := (blkR c).toLoadRect) (S := (blkM c).view.set) (f := f)
    (by rw [blk_set]; unfold blkI; intro i hi; obtain ⟨j, hj, rfl⟩ := Finset.mem_map.mp hi; exact hj)) $$ Hf
  iintro Hf
  iapply Hk
  iexists f; iexact Hf

/-! ## Shares -/

omit [FloatOps F] in
/-- A block dealt to the fifteen transfers, the rest kept; -/
theorem blk_split (c b : Dev nD) (f) : (blkPts (F := F) c b fullShare f)
    ⊢ iprop(blkPts c b rem f ∗ bigSep Finset.univ fun j : Fin 15 => blkPts c b (tok j) f) := by
  unfold blkPts; exact Transfers.pointsTo_toks_split fullShare 15
omit [FloatOps F] in
/-- and put together again. -/
theorem blk_join (c b : Dev nD) (f) : iprop(blkPts (F := F) c b rem f ∗ bigSep Finset.univ fun j : Fin 15 => blkPts c b (tok j) f)
    ⊢ blkPts c b fullShare f := by
  unfold blkPts; exact Transfers.pointsTo_toks_join fullShare 15

omit [FloatOps F] in
theorem blks_split (c : Dev nD) (f) : (bigSep Finset.univ fun j : Fin 15 => blkPts (F := F) c (bwd c j) fullShare f)
    ⊢ iprop((bigSep Finset.univ fun j : Fin 15 => blkPts c (bwd c j) rem f)
      ∗ bigSep Finset.univ fun j : Fin 15 => bigSep Finset.univ fun i : Fin 15 => blkPts c (bwd c j) (tok i) f) := by
  rw [← bigSep_sep']
  exact bigSep_mono fun j _ => blk_split c (bwd c j) f
omit [FloatOps F] in
theorem blks_join (c : Dev nD) (f) : iprop((bigSep Finset.univ fun j : Fin 15 => blkPts (F := F) c (bwd c j) rem f)
      ∗ bigSep Finset.univ fun j : Fin 15 => bigSep Finset.univ fun i : Fin 15 => blkPts c (bwd c j) (tok i) f)
    ⊢ bigSep Finset.univ fun j : Fin 15 => blkPts c (bwd c j) fullShare f := by
  rw [← bigSep_sep']
  exact bigSep_mono fun j _ => blk_join c (bwd c j) f

/-- The load of the whole gathered array, all the other devices' blocks having landed. -/
theorem step_gather (c : Dev nD) {inb : ∀ a, (![0, 0] : Fin 2 → ℕ) a + S384x512.size a ≤ S384x512.size a}
    {hl : gM.view.LoadsAt (Rect.unit (s := S384x512) ![0, 0] S384x512.size inb).toLoadRect}
    {α : Type} {Q : α → sProp 𝕄} {k : (S384x512.Idx → Elt F .bf16) → Prog (TpuEff nD τ sig (Elt F) Λ₀ .tc) α} :
    iprop(blkPts c c rem (Gall m ρ) ∗ bigSep Finset.univ fun j : Fin 15 => blkPts c (bwd c j) fullShare (Gall m ρ))
      ⊢ iprop((iprop(blkPts c c rem (Gall m ρ) ∗ bigSep Finset.univ fun j : Fin 15 => blkPts c (bwd c j) fullShare (Gall m ρ)) -∗ wpc c (k (gath m ρ)) Q)
      -∗ wpc c (.op (.load gM (Rect.unit (s := S384x512) ![0, 0] S384x512.size inb).toLoadRect hl) k) Q) := by
  iintro ⟨Hc, Hb⟩ Hk
  ihave Hs := (blks_split c (Gall m ρ)) $$ Hb
  icases Hs with ⟨Hr, Ht⟩
  ihave Hall := (Entails.of_eq ((blkPts_all (F := F) c rem (Gall m ρ)).trans (bigSep_bwd c fun b => blkPts c b rem (Gall m ρ))).symm) $$ [Hc Hr]
  · isplitl [Hc] <;> iassumption
  iapply (wp_load 𝒱₀ (c : Thread nD τ) none Set.univ (m := gM) (Finset.subset_univ _)) $$ Hall
  iintro Hall
  rw [show gM.view.readAt (Elt F) (Rect.unit (s := S384x512) ![0, 0] S384x512.size inb).toLoadRect (Gall m ρ) = gath m ρ from
    Memref.readAt_unit_zero (Elt F) cc0_scratch0 (funext fun a => by fin_cases a <;> rfl) _ _]
  ihave Hs := (Entails.of_eq ((blkPts_all (F := F) c rem (Gall m ρ)).trans (bigSep_bwd c fun b => blkPts c b rem (Gall m ρ)))) $$ Hall
  icases Hs with ⟨Hc, Hr⟩
  iapply Hk
  isplitl [Hc]; · iexact Hc
  iapply (blks_join c (Gall m ρ))
  isplitl [Hr] <;> iassumption

/-- Everything back at the end: the whole array, gathered. -/
theorem all_back (c : Dev nD) :
    iprop(blkPts c c rem (Gall m ρ) ∗ (bigSep Finset.univ fun j : Fin 15 => blkPts c c (tok j) (Gall m ρ))
        ∗ bigSep Finset.univ fun j : Fin 15 => blkPts c (bwd c j) fullShare (Gall m ρ))
      ⊢ ((((c : Thread nD τ).loc cc0_scratch0) ↦{fullShare} Gall m ρ : sProp 𝕄)) := by
  iintro ⟨Hr, Ht, Hb⟩
  iapply (Entails.of_eq ((blkPts_all (F := F) c fullShare (Gall m ρ)).trans (bigSep_bwd c fun b => blkPts c b fullShare (Gall m ρ))).symm)
  isplitr [Hb]
  · iapply (blk_join c c (Gall m ρ))
    isplitl [Hr] <;> iassumption
  iexact Hb

omit [FloatOps F] in
theorem blk_some (c b : Dev nD) (f) : (blkPts (F := F) c b fullShare f) ⊢ iprop(∃ f, blkPts (F := F) c b fullShare f) := by
  iintro H; iexists f; iexact H
omit [FloatOps F] in
theorem some_out (c : Dev nD) (f) : (bigSep Finset.univ fun j : Fin 15 => blkPts (F := F) c (fwd c j) fullShare f)
    ⊢ bigSep Finset.univ fun j : Fin 15 => iprop(∃ f, blkPts (F := F) c (fwd c j) fullShare f) :=
  bigSep_mono fun j _ => blk_some c (fwd c j) f

omit [FloatOps F] in
/-- At the start: the own block, and the others' blocks to hand over. -/
theorem all_out (c : Dev nD) :
    iprop(∃ f, (((c : Thread nD τ).loc cc0_scratch0) ↦{fullShare} f : sProp 𝕄))
      ⊢ iprop((∃ f, blkPts (F := F) c c fullShare f) ∗ bigSep Finset.univ fun j : Fin 15 => iprop(∃ f, blkPts (F := F) c (fwd c j) fullShare f)) := by
  iintro ⟨%f, Hf⟩
  ihave Hs := (Entails.of_eq ((blkPts_all (F := F) c fullShare f).trans (bigSep_fwd c fun b => blkPts c b fullShare f))) $$ Hf
  icases Hs with ⟨Hc, Hb⟩
  isplitl [Hc]; · iexists f; iexact Hc
  iapply (some_out c f)
  iexact Hb

end Cert.KProof

end
-- ==== Proof.Parts.lean ====
/-
# The body's printed parts

One theorem per printed part of the body, at a symbolic device: each moves its phase on by as many steps as it prints,
and says what it hands to the parts after it.
-/
module

public import proofs.«01_k».proof.Proof.Local

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The staging buffers -/

abbrev xPts (c : Dev nD) : sProp 𝕄 := ((c : Thread nD τ).loc cc0_stg0_0) ↦{fullShare} xs m ρ c
abbrev iPts (c : Dev nD) : sProp 𝕄 := ((c : Thread nD τ).loc cc0_stg1_0) ↦{fullShare} rs m ρ c
abbrev wPts (c : Dev nD) : sProp 𝕄 := ((c : Thread nD τ).loc cc0_stg2_0) ↦{fullShare} ws m ρ c
abbrev oPts (c : Dev nD) (f : (cc0_stg3_0 : Ref sig .tc).ty.Contents (Elt F)) : sProp 𝕄 := ((c : Thread nD τ).loc cc0_stg3_0) ↦{fullShare} f

theorem hz : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz _ f
omit [FloatOps F] in
theorem read_i (f : (cc0_stg1_0 : Ref sig .tc).ty.Contents (Elt F)) :
    iM.view.readAt (Elt F) (Rect.unit (s := S512x1) ![0, 0] S512x1.size inb_S512x1_S512x1_0_0).toLoadRect f = f :=
  Memref.readAt_unit_zero (Elt F) cc0_stg1_0 hz _ f

/-- A load from the result's buffer; -/
theorem step_look (c : Dev nD) {r : LoadRect S512x512} {hl : oM.view.LoadsAt r} {f : (cc0_stg3_0 : Ref sig .tc).ty.Contents (Elt F)}
    {α : Type} {Q : α → sProp 𝕄} {k : (r.shape.Idx → Elt F .f32) → Prog (TpuEff nD τ sig (Elt F) Λ₀ .tc) α} :
    oPts c f ⊢ iprop((∀ v, oPts c f -∗ wpc c (k v) Q) -∗ wpc c (.op (.load oM r hl) k) Q) := by
  iintro Ho Hk
  iapply (wp_load 𝒱₀ (c : Thread nD τ) none Set.univ (m := oM) (Finset.subset_univ _)) $$ Ho
  iintro Ho
  iapply Hk
  iexact Ho

/-- a store into it. -/
theorem step_out (c : Dev nD) {r : Rect S512x512} {w : r.shape.Idx → Elt F .f32} {hx : (oM.access r).Stores Finset.univ} {hm}
    {f : (cc0_stg3_0 : Ref sig .tc).ty.Contents (Elt F)} {L : List (View.Piece (Elt F) S512x512 .f32)}
    {α : Type} {Q : α → sProp 𝕄} {k : PUnit → Prog (TpuEff nD τ sig (Elt F) Λ₀ .tc) α} :
    oPts c (oM.view.writes (Elt F) f L) ⊢ iprop((oPts c (oM.view.writes (Elt F) f (⟨r, w⟩ :: L)) -∗ wpc c (k ⟨⟩) Q)
      -∗ wpc c (.op (.store oM r w Finset.univ hx hm) k) Q) :=
  wp_store_writes 𝒱₀ (c : Thread nD τ) none Set.univ (m := oM) (Finset.subset_univ _)

theorem step_out₀ (c : Dev nD) {r : Rect S512x512} {w : r.shape.Idx → Elt F .f32} {hx : (oM.access r).Stores Finset.univ} {hm}
    {f : (cc0_stg3_0 : Ref sig .tc).ty.Contents (Elt F)}
    {α : Type} {Q : α → sProp 𝕄} {k : PUnit → Prog (TpuEff nD τ sig (Elt F) Λ₀ .tc) α} :
    oPts c f ⊢ iprop((oPts c (oM.view.writes (Elt F) f [⟨r, w⟩]) -∗ wpc c (k ⟨⟩) Q)
      -∗ wpc c (.op (.store oM r w Finset.univ hx hm) k) Q) :=
  step_out c (L := [])

/-! ## Between the phases -/

/-- The tokens of the transfers to come. -/
def sndToks (c : Dev nD) : sProp 𝕄 :=
  bigSep Finset.univ fun j : Fin 15 => iprop(dutyTok ER (sendCell c j) 0 0 ∗ dutyTok ER (recvCell (fwd c j) j) 0 0)
/-- Every signal out, the block's fourth product to come. -/
def midSt (c : Dev nD) : sProp 𝕄 :=
  iprop(ow (F := F) c (oSnd c 0) ∗ levAts L lv ∗ cred (tallyAt (barCell c) () 15) ∗ atPos ER (barCell c) 0 ∅ 0 ∗ wPts m ρ c
    ∗ (∃ f, blkPts (F := F) c c fullShare f) ∗ sndToks (F := F) c)
/-- What stands by during the transfers. -/
def keepSt (c : Dev nD) : sProp 𝕄 := iprop(blkPts c c rem (Gall m ρ) ∗ semVal (barCell c) 0 ∗ wPts m ρ c)
/-- All landed. -/
def landed (c : Dev nD) : sProp 𝕄 :=
  iprop((bigSep Finset.univ fun j : Fin 15 => blkPts c (bwd c j) fullShare (Gall m ρ)) ∗ bigSep Finset.univ fun j : Fin 15 => semVal (recvCell c j) 0)

theorem snd_start (c : Dev nD) :
    iprop(ow (F := F) c (oSnd c 0) ∗ blkPts c c fullShare (Gall m ρ) ∗ (bigSep Finset.univ fun j : Fin 15 => iprop(∃ f, blkPts (F := F) (fwd c j) c fullShare f))
      ∗ sndToks (F := F) c) ⊢ iprop(sndSt m ρ c 0 ∗ blkPts c c rem (Gall m ρ)) := by
  unfold sndSt sndToks sndRes
  rw [since_zero, upto_zero, bigSep_empty, bigSep_sep', bigSep_sep', bigSep_sep', bigSep_sep']
  iintro ⟨HO, Hown, Hdst, Ht1, Ht2⟩
  ihave Hs := (blk_split c c (Gall m ρ)) $$ Hown
  icases Hs with ⟨Hrem, Htok⟩
  isplitr [Hrem]
  · isplitl [HO]; · iexact HO
    isplitl
    · isplitl [Ht1]; · iexact Ht1
      isplitl [Ht2]; · iexact Ht2
      isplitl [Htok] <;> iassumption
    iempintro
  iexact Hrem

/-- The transfers out: nothing is owed any more, and the landings may be waited for. -/
theorem snd_end (c : Dev nD) :
    sndSt m ρ c 15 ⊢ iprop((bigSep Finset.univ fun j : Fin 15 => rcvRes (F := F) c j) -∗ rcvSt m ρ c 0 ∗ bigSep Finset.univ fun j : Fin 15 => cred (tallyAt (sendCell c j) () N)) := by
  unfold sndSt rcvSt
  rw [since_end, upto_end, since_zero, upto_zero, bigSep_empty, bigSep_empty, oSnd_end]
  iintro ⟨HO, -, Hc⟩ Hr
  isplitr [Hc]
  · isplitl [HO]; · iexact HO
    isplitl [Hr]; · iexact Hr
    iempintro
  iexact Hc

theorem rcv_end (c : Dev nD) :
    rcvSt m ρ c 15 ⊢ iprop(ow (F := F) c 0 ∗ (bigSep Finset.univ fun j : Fin 15 => blkPts c (bwd c j) fullShare (Gall m ρ)) ∗ bigSep Finset.univ fun j : Fin 15 => semVal (recvCell c j) 0) := by
  unfold rcvSt rcvDone
  rw [since_end, upto_end, bigSep_empty, bigSep_sep']
  iintro ⟨HO, -, Hb, Hz⟩
  isplitl [HO]; · iexact HO
  isplitl [Hb] <;> iassumption

theorem sw_start (c : Dev nD) :
    iprop(ow (F := F) c 0 ∗ (bigSep Finset.univ fun j : Fin 15 => (cred (tallyAt (sendCell c j) () N) : sProp 𝕄)) ∗ bigSep Finset.univ fun j : Fin 15 => atPos ER (sendCell c j) 0 ∅ 0)
      ⊢ swSt m ρ c 0 := by
  unfold swSt swRes
  rw [since_zero, upto_zero, bigSep_empty, bigSep_sep']
  iintro ⟨HO, Hc, Ha⟩
  isplitl [HO]; · iexact HO
  isplitl
  · isplitl [Hc] <;> iassumption
  iempintro

theorem sw_end (c : Dev nD) :
    swSt m ρ c 15 ⊢ iprop(ow (F := F) c 0 ∗ (bigSep Finset.univ fun j : Fin 15 => blkPts c c (tok j) (Gall m ρ)) ∗ bigSep Finset.univ fun j : Fin 15 => semVal (sendCell c j) 0) := by
  unfold swSt swDone
  rw [since_end, upto_end, bigSep_empty, bigSep_sep']
  iintro ⟨HO, -, Hb, Hz⟩
  isplitl [HO]; · iexact HO
  isplitl [Hb] <;> iassumption

/-! ## The signals -/

theorem part1 (c : Dev nD) (Kt : (Σ' (d0 : Dev nD) (v2 : BitVec 32) (v3 : Sems sig S_) (v24 : BitVec 32), BitVec 32) → sProp 𝕄) :
    records m ρ K ⊢ iprop(sigSt (F := F) c 0 -∗ (∀ a b, sigSt (F := F) c 5 -∗ Kt ⟨c, word c, SemArray.scalar (sig.barrier 0 rfl), a, b⟩)
      -∗ wpc c (k0_part1 xM (Memref.isWhole_whole _) iM (Memref.isWhole_whole _) wM (Memref.isWhole_whole _) oM (Memref.isWhole_whole _)
          gM (Memref.isWhole_whole _) cc0_scratch1 cc0_scratch2) Kt) := by
  rw [k0_part1_eq_skeleton]; unfold k0_part1_skel word
  simp only [semSignalWord, semWaitWord, Prog.lift, Prog.bind_op, Prog.bind_ret, Prog.pure_eq_ret, wp_deviceId]
  iintro #HR HS Hk
  iapply (step_signal m ρ K c ⟨k0_dev1 c, k0_dev1_lt c⟩ 0 0 1 rfl rfl (Fin.ext (k0_dev1_eq c)) (by decide)) $$ HR HS; iintro HS
  iapply (step_signal m ρ K c ⟨k0_dev2 c, k0_dev2_lt c⟩ 1 1 2 rfl rfl (Fin.ext (k0_dev2_eq c)) (by decide)) $$ HR HS; iintro HS
  iapply (step_signal m ρ K c ⟨k0_dev3 c, k0_dev3_lt c⟩ 2 2 3 rfl rfl (Fin.ext (k0_dev3_eq c)) (by decide)) $$ HR HS; iintro HS
  iapply (step_signal m ρ K c ⟨k0_dev4 c, k0_dev4_lt c⟩ 3 3 4 rfl rfl (Fin.ext (k0_dev4_eq c)) (by decide)) $$ HR HS; iintro HS
  iapply (step_signal m ρ K c ⟨k0_dev5 c, k0_dev5_lt c⟩ 4 4 5 rfl rfl (Fin.ext (k0_dev5_eq c)) (by decide)) $$ HR HS; iintro HS
  rw [wp_ret]; imodintro
  iapply Hk; iexact HS

theorem part2 (c : Dev nD) (v2 v24 c16 : BitVec 32) (Kt : (Σ' (_ : BitVec 32), BitVec 32) → sProp 𝕄) :
    records m ρ K ⊢ iprop(sigSt (F := F) c 5 -∗ (∀ a b, sigSt (F := F) c 11 -∗ Kt ⟨a, b⟩)
      -∗ wpc c (k0_part2 xM (Memref.isWhole_whole _) iM (Memref.isWhole_whole _) wM (Memref.isWhole_whole _) oM (Memref.isWhole_whole _)
          gM (Memref.isWhole_whole _) cc0_scratch1 cc0_scratch2 c v2 (SemArray.scalar (sig.barrier 0 rfl)) v24 c16) Kt) := by
  rw [k0_part2_eq_skeleton]; unfold k0_part2_skel
  simp only [semSignalWord, semWaitWord, Prog.lift, Prog.bind_op, Prog.bind_ret, Prog.pure_eq_ret, wp_deviceId]
  iintro #HR HS Hk
  iapply (step_signal m ρ K c ⟨k0_dev6 c, k0_dev6_lt c⟩ 5 5 6 rfl rfl (Fin.ext (k0_dev6_eq c)) (by decide)) $$ HR HS; iintro HS
  iapply (step_signal m ρ K c ⟨k0_dev7 c, k0_dev7_lt c⟩ 6 6 7 rfl rfl (Fin.ext (k0_dev7_eq c)) (by decide)) $$ HR HS; iintro HS
  iapply (step_signal m ρ K c ⟨k0_dev8 c, k0_dev8_lt c⟩ 7 7 8 rfl rfl (Fin.ext (k0_dev8_eq c)) (by decide)) $$ HR HS; iintro HS
  iapply (step_signal m ρ K c ⟨k0_dev9 c, k0_dev9_lt c⟩ 8 8 9 rfl rfl (Fin.ext (k0_dev9_eq c)) (by decide)) $$ HR HS; iintro HS
  iapply (step_signal m ρ K c ⟨k0_dev10 c, k0_dev10_lt c⟩ 9 9 10 rfl rfl (Fin.ext (k0_dev10_eq c)) (by decide)) $$ HR HS; iintro HS
  iapply (step_signal m ρ K c ⟨k0_dev11 c, k0_dev11_lt c⟩ 10 10 11 rfl rfl (Fin.ext (k0_dev11_eq c)) (by decide)) $$ HR HS; iintro HS
  rw [wp_ret]; imodintro
  iapply Hk; iexact HS

theorem part3 (c : Dev nD) (v2 v48 c16 : BitVec 32) (Kt : (Σ' (v65 : IVec S512x1 32) (v79 : FVec F S512x1 .f32) (v80 : IVec S512x24 32), BitVec 32) → sProp 𝕄) :
    records m ρ K ⊢ iprop(iprop(sigSt (F := F) c 11 ∗ iPts m ρ c) -∗ (iprop(sigSt (F := F) c 15 ∗ iPts m ρ c) -∗ Kt ⟨k0_pay1 (F := F) (rs m ρ c), k0_pay2 (rs m ρ c), iota .tc S512x24 32 [1] iota_S512x24_d1_w32, Scalar.muli v2 4#32⟩)
      -∗ wpc c (k0_part3 xM (Memref.isWhole_whole _) iM (Memref.isWhole_whole _) wM (Memref.isWhole_whole _) oM (Memref.isWhole_whole _)
          gM (Memref.isWhole_whole _) cc0_scratch1 cc0_scratch2 c v2 (SemArray.scalar (sig.barrier 0 rfl)) v48 c16) Kt) := by
  rw [k0_part3_eq_skeleton]; unfold k0_part3_skel
  simp only [semSignalWord, semWaitWord, Prog.lift, Prog.bind_op, Prog.bind_ret, Prog.pure_eq_ret, wp_deviceId]
  iintro #HR ⟨HS, Hi⟩ Hk
  iapply (step_signal m ρ K c ⟨k0_dev12 c, k0_dev12_lt c⟩ 11 11 12 rfl rfl (Fin.ext (k0_dev12_eq c)) (by decide)) $$ HR HS; iintro HS
  iapply (step_signal m ρ K c ⟨k0_dev13 c, k0_dev13_lt c⟩ 12 12 13 rfl rfl (Fin.ext (k0_dev13_eq c)) (by decide)) $$ HR HS; iintro HS
  iapply (step_signal m ρ K c ⟨k0_dev14 c, k0_dev14_lt c⟩ 13 13 14 rfl rfl (Fin.ext (k0_dev14_eq c)) (by decide)) $$ HR HS; iintro HS
  iapply (step_signal m ρ K c ⟨k0_dev15 c, k0_dev15_lt c⟩ 14 14 15 rfl rfl (Fin.ext (k0_dev15_eq c)) (by decide)) $$ HR HS; iintro HS
  iapply (wp_load 𝒱₀ (c : Thread nD τ) none Set.univ (m := iM) (Finset.subset_univ _)) $$ Hi; iintro Hi
  rw [read_i]
  rw [wp_ret]; imodintro
  iapply Hk
  isplitl [HS] <;> iassumption

/-! ## The device's own block -/

theorem part4 (c : Dev nD) (v65 : IVec S512x1 32) (v80 : IVec S512x24 32) (v81 : BitVec 32) (Kt : (Σ' (v107 : IVec S512x24 32) (v126 : FVec F S512x24 .f32), IVec S512x24 32) → sProp 𝕄) :
    Kt ⟨k0_pay3 v80 v81, k0_pay4 (F := F) v80, k0_pay5 v65⟩ ⊢ wpc c (k0_part4 (F := F) xM (Memref.isWhole_whole _) iM (Memref.isWhole_whole _) wM (Memref.isWhole_whole _) oM (Memref.isWhole_whole _)
          gM (Memref.isWhole_whole _) cc0_scratch1 cc0_scratch2 v65 v80 v81) Kt := by
  rw [k0_part4_eq_skeleton]; unfold k0_part4_skel
  simp only [Prog.pure_eq_ret, wp_ret]
  iintro H; imodintro; iexact H

theorem part5 (c : Dev nD) (Kt : (Σ' (v136 : FVec F S24x256 .f32) (v137 : IVec S24x1 32) (v138 : FVec F S24x512 .f32), FVec F S24x512 .f32) → sProp 𝕄) :
    xPts m ρ c ⊢ iprop(wPts m ρ c -∗ (xPts m ρ c -∗ wPts m ρ c -∗ Kt ⟨slotX m ρ c, rowI, k0_pay7 (F := F), acc0 m ρ c⟩)
      -∗ wpc c (k0_part5 xM (Memref.isWhole_whole _) iM (Memref.isWhole_whole _) wM (Memref.isWhole_whole _) oM (Memref.isWhole_whole _)
          gM (Memref.isWhole_whole _) cc0_scratch1 cc0_scratch2 (k0_pay2 (rs m ρ c)) (slotE c) (k0_pay4 (F := F) (iota .tc S512x24 32 [1] iota_S512x24_d1_w32)) (k0_pay5 (k0_pay1 (F := F) (rs m ρ c)))) Kt) := by
  rw [k0_part5_eq_skeleton]; unfold k0_part5_skel slotX acc0 wk0
  simp only [Prog.lift, Prog.bind_op, Prog.bind_ret, Prog.pure_eq_ret]
  iintro Hx Hw Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [wp_ret]; imodintro
  iapply Hk $$ Hx Hw

theorem part6 (c : Dev nD) (Kt : (Σ' (v206 : FVec F S24x512 .f32) (c6_i32_104 : BitVec 32) (v208 : IVec S24x1 32) (v215 : IVec S24x1 32), BitVec 32) → sProp 𝕄) :
    wPts m ρ c ⊢ iprop((wPts m ρ c -∗ Kt ⟨acc1 m ρ c, 6#32, k0_pay10 rowI, k0_pay11 rowI, 0#32⟩)
      -∗ wpc c (k0_part6 xM (Memref.isWhole_whole _) iM (Memref.isWhole_whole _) wM (Memref.isWhole_whole _) oM (Memref.isWhole_whole _)
          gM (Memref.isWhole_whole _) cc0_scratch1 cc0_scratch2 (slotX m ρ c) rowI (k0_pay7 (F := F)) (acc0 m ρ c)) Kt) := by
  rw [k0_part6_eq_skeleton]; unfold k0_part6_skel acc1 wk1
  simp only [Prog.lift, Prog.bind_op, Prog.bind_ret, Prog.pure_eq_ret]
  iintro Hw Hk
  iapply (wp_load 𝒱₀ (c : Thread nD τ) none Set.univ (m := wM) (Finset.subset_univ _)) $$ Hw; iintro Hw
  rw [wp_ret]; imodintro
  iapply Hk $$ Hw

theorem part7 (c : Dev nD) (Kt : (Σ' (v240 : FVec F S24x512 .f32) (v242 : IVec S24x1 32), IVec S24x1 1) → sProp 𝕄) :
    wPts m ρ c ⊢ iprop((wPts m ρ c -∗ Kt ⟨acc2 m ρ c, k0_pay13 rowI, k0_pay14 rowI⟩)
      -∗ wpc c (k0_part7 xM (Memref.isWhole_whole _) iM (Memref.isWhole_whole _) wM (Memref.isWhole_whole _) oM (Memref.isWhole_whole _)
          gM (Memref.isWhole_whole _) cc0_scratch1 cc0_scratch2 (slotX m ρ c) rowI (acc1 m ρ c) 6#32 (k0_pay10 rowI) (k0_pay11 rowI) 0#32) Kt) := by
  rw [k0_part7_eq_skeleton]; unfold k0_part7_skel acc2 wk2
  simp only [Prog.lift, Prog.bind_op, Prog.bind_ret, Prog.pure_eq_ret]
  iintro Hw Hk
  iapply (wp_load 𝒱₀ (c : Thread nD τ) none Set.univ (m := wM) (Finset.subset_univ _)) $$ Hw; iintro Hw
  rw [wp_ret]; imodintro
  iapply Hk $$ Hw

/-! ## The barrier and the first transfer -/

theorem part8 (c : Dev nD) (v2 : BitVec 32) (Kt : (BitVec 32) → sProp 𝕄) :
    records m ρ K ⊢ iprop(midSt m ρ c -∗ (∀ a, iprop(sndSt m ρ c 1 ∗ keepSt m ρ c) -∗ Kt a)
      -∗ wpc c (k0_part8 xM (Memref.isWhole_whole _) iM (Memref.isWhole_whole _) wM (Memref.isWhole_whole _) oM (Memref.isWhole_whole _)
          gM (Memref.isWhole_whole _) cc0_scratch1 cc0_scratch2 c v2 (SemArray.scalar (sig.barrier 0 rfl)) (slotX m ρ c) (acc2 m ρ c) (k0_pay13 rowI) (k0_pay14 rowI)) Kt) := by
  rw [k0_part8_eq_skeleton]; unfold k0_part8_skel
  simp only [semSignalWord, semWaitWord, Prog.lift, Prog.bind_op, Prog.bind_ret, Prog.pure_eq_ret, wp_deviceId]
  iintro #HR Hm Hk
  unfold midSt
  icases Hm with ⟨HO, #Hlev, Hc, Hat, Hw, Hown, Htoks⟩
  iapply (wp_load 𝒱₀ (c : Thread nD τ) none Set.univ (m := wM) (Finset.subset_univ _)) $$ Hw; iintro Hw
  iapply (step_peek c (k0_off1_eq c)) $$ Hown; iintro %v Hown
  iapply (step_store m ρ c (k0_off1_eq c) rfl) $$ Hown; iintro Hown
  iapply (step_barrier m ρ K c (by decide)) $$ [HO Hc Hat]
  · isplitr; · iexact HR
    isplitr; · iexact Hlev
    isplitl [HO]; · iexact HO
    isplitl [Hc] <;> iassumption
  iintro ⟨HO, Hz, Hdst⟩
  ihave HS := (snd_start m ρ c) $$ [HO Hown Hdst Htoks]
  · isplitl [HO]; · iexact HO
    isplitl [Hown]; · iexact Hown
    isplitl [Hdst] <;> iassumption
  icases HS with ⟨HS, Hrem⟩
  iapply (step_send m ρ K c ⟨k0_dev16 c, k0_dev16_lt c⟩ 0 0 1 rfl rfl (Fin.ext (k0_dev16_eq c)) (k0_off2_eq c) rfl rfl) $$ HR HS; iintro HS
  rw [wp_ret]; imodintro
  iapply Hk
  isplitl [HS]; · iexact HS
  unfold keepSt
  isplitl [Hrem]; · iexact Hrem
  isplitl [Hz] <;> iassumption

/-! ## The other transfers -/

theorem part9 (c : Dev nD) (v2 v294 : BitVec 32) (Kt : PUnit → sProp 𝕄) :
    records m ρ K ⊢ iprop(sndSt m ρ c 1 -∗ (sndSt m ρ c 3 -∗ Kt ⟨⟩)
      -∗ wpc c (k0_part9 xM (Memref.isWhole_whole _) iM (Memref.isWhole_whole _) wM (Memref.isWhole_whole _) oM (Memref.isWhole_whole _)
          gM (Memref.isWhole_whole _) cc0_scratch1 cc0_scratch2 c v2 v294) Kt) := by
  rw [k0_part9_eq_skeleton]; unfold k0_part9_skel
  simp only [semSignalWord, semWaitWord, Prog.lift, Prog.bind_op, Prog.bind_ret, Prog.pure_eq_ret, wp_deviceId]
  iintro #HR HS Hk
  iapply (step_send m ρ K c ⟨k0_dev17 c, k0_dev17_lt c⟩ 1 1 2 rfl rfl (Fin.ext (k0_dev17_eq c)) (k0_off2_eq c) rfl rfl) $$ HR HS; iintro HS
  iapply (step_send m ρ K c ⟨k0_dev18 c, k0_dev18_lt c⟩ 2 2 3 rfl rfl (Fin.ext (k0_dev18_eq c)) (k0_off2_eq c) rfl rfl) $$ HR HS; iintro HS
  rw [wp_ret]; imodintro
  iapply Hk; iexact HS

theorem part10 (c : Dev nD) (v2 : BitVec 32) (Kt : (Σ' (_ : BitVec 32), BitVec 32) → sProp 𝕄) :
    records m ρ K ⊢ iprop(sndSt m ρ c 3 -∗ (∀ a b, sndSt m ρ c 6 -∗ Kt ⟨a, b⟩)
      -∗ wpc c (k0_part10 xM (Memref.isWhole_whole _) iM (Memref.isWhole_whole _) wM (Memref.isWhole_whole _) oM (Memref.isWhole_whole _)
          gM (Memref.isWhole_whole _) cc0_scratch1 cc0_scratch2 c v2) Kt) := by
  rw [k0_part10_eq_skeleton]; unfold k0_part10_skel
  simp only [semSignalWord, semWaitWord, Prog.lift, Prog.bind_op, Prog.bind_ret, Prog.pure_eq_ret, wp_deviceId]
  iintro #HR HS Hk
  iapply (step_send m ρ K c ⟨k0_dev19 c, k0_dev19_lt c⟩ 3 3 4 rfl rfl (Fin.ext (k0_dev19_eq c)) (k0_off2_eq c) rfl rfl) $$ HR HS; iintro HS
  iapply (step_send m ρ K c ⟨k0_dev20 c, k0_dev20_lt c⟩ 4 4 5 rfl rfl (Fin.ext (k0_dev20_eq c)) (k0_off2_eq c) rfl rfl) $$ HR HS; iintro HS
  iapply (step_send m ρ K c ⟨k0_dev21 c, k0_dev21_lt c⟩ 5 5 6 rfl rfl (Fin.ext (k0_dev21_eq c)) (k0_off2_eq c) rfl rfl) $$ HR HS; iintro HS
  rw [wp_ret]; imodintro
  iapply Hk; iexact HS

theorem part11 (c : Dev nD) (v2 v354 c1 : BitVec 32) (Kt : (BitVec 32) → sProp 𝕄) :
    records m ρ K ⊢ iprop(sndSt m ρ c 6 -∗ (∀ a, sndSt m ρ c 9 -∗ Kt a)
      -∗ wpc c (k0_part11 xM (Memref.isWhole_whole _) iM (Memref.isWhole_whole _) wM (Memref.isWhole_whole _) oM (Memref.isWhole_whole _)
          gM (Memref.isWhole_whole _) cc0_scratch1 cc0_scratch2 c v2 v354 c1) Kt) := by
  rw [k0_part11_eq_skeleton]; unfold k0_part11_skel
  simp only [semSignalWord, semWaitWord, Prog.lift, Prog.bind_op, Prog.bind_ret, Prog.pure_eq_ret, wp_deviceId]
  iintro #HR HS Hk
  iapply (step_send m ρ K c ⟨k0_dev22 c, k0_dev22_lt c⟩ 6 6 7 rfl rfl (Fin.ext (k0_dev22_eq c)) (k0_off2_eq c) rfl rfl) $$ HR HS; iintro HS
  iapply (step_send m ρ K c ⟨k0_dev23 c, k0_dev23_lt c⟩ 7 7 8 rfl rfl (Fin.ext (k0_dev23_eq c)) (k0_off2_eq c) rfl rfl) $$ HR HS; iintro HS
  iapply (step_send m ρ K c ⟨k0_dev24 c, k0_dev24_lt c⟩ 8 8 9 rfl rfl (Fin.ext (k0_dev24_eq c)) (k0_off2_eq c) rfl rfl) $$ HR HS; iintro HS
  rw [wp_ret]; imodintro
  iapply Hk; iexact HS

theorem part12 (c : Dev nD) (v2 v389 : BitVec 32) (Kt : PUnit → sProp 𝕄) :
    records m ρ K ⊢ iprop(sndSt m ρ c 9 -∗ (sndSt m ρ c 11 -∗ Kt ⟨⟩)
      -∗ wpc c (k0_part12 xM (Memref.isWhole_whole _) iM (Memref.isWhole_whole _) wM (Memref.isWhole_whole _) oM (Memref.isWhole_whole _)
          gM (Memref.isWhole_whole _) cc0_scratch1 cc0_scratch2 c v2 v389) Kt) := by
  rw [k0_part12_eq_skeleton]; unfold k0_part12_skel
  simp only [semSignalWord, semWaitWord, Prog.lift, Prog.bind_op, Prog.bind_ret, Prog.pure_eq_ret, wp_deviceId]
  iintro #HR HS Hk
  iapply (step_send m ρ K c ⟨k0_dev25 c, k0_dev25_lt c⟩ 9 9 10 rfl rfl (Fin.ext (k0_dev25_eq c)) (k0_off2_eq c) rfl rfl) $$ HR HS; iintro HS
  iapply (step_send m ρ K c ⟨k0_dev26 c, k0_dev26_lt c⟩ 10 10 11 rfl rfl (Fin.ext (k0_dev26_eq c)) (k0_off2_eq c) rfl rfl) $$ HR HS; iintro HS
  rw [wp_ret]; imodintro
  iapply Hk; iexact HS

theorem part13 (c : Dev nD) (v2 : BitVec 32) (Kt : (Σ' (_ : BitVec 32), BitVec 32) → sProp 𝕄) :
    records m ρ K ⊢ iprop(sndSt m ρ c 11 -∗ (∀ a b, sndSt m ρ c 14 -∗ Kt ⟨a, b⟩)
      -∗ wpc c (k0_part13 xM (Memref.isWhole_whole _) iM (Memref.isWhole_whole _) wM (Memref.isWhole_whole _) oM (Memref.isWhole_whole _)
          gM (Memref.isWhole_whole _) cc0_scratch1 cc0_scratch2 c v2) Kt) := by
  rw [k0_part13_eq_skeleton]; unfold k0_part13_skel
  simp only [semSignalWord, semWaitWord, Prog.lift, Prog.bind_op, Prog.bind_ret, Prog.pure_eq_ret, wp_deviceId]
  iintro #HR HS Hk
  iapply (step_send m ρ K c ⟨k0_dev27 c, k0_dev27_lt c⟩ 11 11 12 rfl rfl (Fin.ext (k0_dev27_eq c)) (k0_off2_eq c) rfl rfl) $$ HR HS; iintro HS
  iapply (step_send m ρ K c ⟨k0_dev28 c, k0_dev28_lt c⟩ 12 12 13 rfl rfl (Fin.ext (k0_dev28_eq c)) (k0_off2_eq c) rfl rfl) $$ HR HS; iintro HS
  iapply (step_send m ρ K c ⟨k0_dev29 c, k0_dev29_lt c⟩ 13 13 14 rfl rfl (Fin.ext (k0_dev29_eq c)) (k0_off2_eq c) rfl rfl) $$ HR HS; iintro HS
  rw [wp_ret]; imodintro
  iapply Hk; iexact HS

theorem part14 (c : Dev nD) (v2 v450 c24 : BitVec 32) (Kt : (Σ' (v485 : IVec S128x384 32) (v487 : BitVec 32) (v489 : IVec S128x384 32) (v491 : IVec S128x384 1), IVec S128x384 32) → sProp 𝕄) :
    records m ρ K ⊢ iprop(sndSt m ρ c 14 -∗ (sndSt m ρ c 15 -∗ Kt ⟨k0_pay16, Scalar.select (Scalar.cmpi .eq 6#32 0#32) 1#32 6#32, k0_pay17, k0_pay18, k0_pay19⟩)
      -∗ wpc c (k0_part14 xM (Memref.isWhole_whole _) iM (Memref.isWhole_whole _) wM (Memref.isWhole_whole _) oM (Memref.isWhole_whole _)
          gM (Memref.isWhole_whole _) cc0_scratch1 cc0_scratch2 c v2 v450 c24) Kt) := by
  rw [k0_part14_eq_skeleton]; unfold k0_part14_skel
  simp only [semSignalWord, semWaitWord, Prog.lift, Prog.bind_op, Prog.bind_ret, Prog.pure_eq_ret, wp_deviceId]
  iintro #HR HS Hk
  iapply (step_send m ρ K c ⟨k0_dev30 c, k0_dev30_lt c⟩ 14 14 15 rfl rfl (Fin.ext (k0_dev30_eq c)) (k0_off2_eq c) rfl rfl) $$ HR HS; iintro HS
  rw [wp_ret]; imodintro
  iapply Hk; iexact HS

theorem part15 (c : Dev nD) (v2 : BitVec 32) (Kt : (Σ' (v514 : FVec F S128x384 .bf16) (v524 : FVec F S128x384 .bf16) (v534 : FVec F S128x384 .bf16) (v544 : FVec F S128x384 .bf16), BitVec 32) → sProp 𝕄) :
    iprop(∀ a, Kt ⟨sel0 m ρ c, sel1 m ρ c, sel2 m ρ c, sel3 m ρ c, a⟩) ⊢ wpc c (k0_part15 (F := F) xM (Memref.isWhole_whole _) iM (Memref.isWhole_whole _) wM (Memref.isWhole_whole _) oM (Memref.isWhole_whole _)
          gM (Memref.isWhole_whole _) cc0_scratch1 cc0_scratch2 v2 (k0_pay1 (F := F) (rs m ρ c)) (k0_pay2 (rs m ρ c))
      k0_pay16 (Scalar.select (Scalar.cmpi .eq 6#32 0#32) 1#32 6#32) k0_pay17 k0_pay18 k0_pay19) Kt := by
  rw [k0_part15_eq_skeleton]; unfold k0_part15_skel sel0 sel1 sel2 sel3
  simp only [Prog.pure_eq_ret, wp_ret]
  iintro H; imodintro
  iapply H

/-! ## The landings -/

theorem part16 (c : Dev nD) (v2 v547 : BitVec 32) (Kt : PUnit → sProp 𝕄) :
    records m ρ K ⊢ iprop(rcvSt m ρ c 0 -∗ (rcvSt m ρ c 2 -∗ Kt ⟨⟩)
      -∗ wpc c (k0_part16 xM (Memref.isWhole_whole _) iM (Memref.isWhole_whole _) wM (Memref.isWhole_whole _) oM (Memref.isWhole_whole _)
          gM (Memref.isWhole_whole _) cc0_scratch1 cc0_scratch2 c v2 v547) Kt) := by
  rw [k0_part16_eq_skeleton]; unfold k0_part16_skel
  simp only [semSignalWord, semWaitWord, Prog.lift, Prog.bind_op, Prog.bind_ret, Prog.pure_eq_ret, wp_deviceId]
  iintro #HR HS Hk
  iapply (step_recv m ρ K c 0 0 1 rfl rfl rfl) $$ HR HS; iintro HS
  iapply (step_recv m ρ K c 1 1 2 rfl rfl rfl) $$ HR HS; iintro HS
  rw [wp_ret]; imodintro
  iapply Hk; iexact HS

theorem part17 (c : Dev nD) (v2 : BitVec 32) (Kt : (BitVec 32) → sProp 𝕄) :
    records m ρ K ⊢ iprop(rcvSt m ρ c 2 -∗ (∀ a, rcvSt m ρ c 5 -∗ Kt a)
      -∗ wpc c (k0_part17 xM (Memref.isWhole_whole _) iM (Memref.isWhole_whole _) wM (Memref.isWhole_whole _) oM (Memref.isWhole_whole _)
          gM (Memref.isWhole_whole _) cc0_scratch1 cc0_scratch2 c v2) Kt) := by
  rw [k0_part17_eq_skeleton]; unfold k0_part17_skel
  simp only [semSignalWord, semWaitWord, Prog.lift, Prog.bind_op, Prog.bind_ret, Prog.pure_eq_ret, wp_deviceId]
  iintro #HR HS Hk
  iapply (step_recv m ρ K c 2 2 3 rfl rfl rfl) $$ HR HS; iintro HS
  iapply (step_recv m ρ K c 3 3 4 rfl rfl rfl) $$ HR HS; iintro HS
  iapply (step_recv m ρ K c 4 4 5 rfl rfl rfl) $$ HR HS; iintro HS
  rw [wp_ret]; imodintro
  iapply Hk; iexact HS

theorem part18 (c : Dev nD) (v2 v602 : BitVec 32) (Kt : (BitVec 32) → sProp 𝕄) :
    records m ρ K ⊢ iprop(rcvSt m ρ c 5 -∗ (∀ a, rcvSt m ρ c 8 -∗ Kt a)
      -∗ wpc c (k0_part18 xM (Memref.isWhole_whole _) iM (Memref.isWhole_whole _) wM (Memref.isWhole_whole _) oM (Memref.isWhole_whole _)
          gM (Memref.isWhole_whole _) cc0_scratch1 cc0_scratch2 c v2 v602) Kt) := by
  rw [k0_part18_eq_skeleton]; unfold k0_part18_skel
  simp only [semSignalWord, semWaitWord, Prog.lift, Prog.bind_op, Prog.bind_ret, Prog.pure_eq_ret, wp_deviceId]
  iintro #HR HS Hk
  iapply (step_recv m ρ K c 5 5 6 rfl rfl rfl) $$ HR HS; iintro HS
  iapply (step_recv m ρ K c 6 6 7 rfl rfl rfl) $$ HR HS; iintro HS
  iapply (step_recv m ρ K c 7 7 8 rfl rfl rfl) $$ HR HS; iintro HS
  rw [wp_ret]; imodintro
  iapply Hk; iexact HS

theorem part19 (c : Dev nD) (v2 v633 : BitVec 32) (Kt : PUnit → sProp 𝕄) :
    records m ρ K ⊢ iprop(rcvSt m ρ c 8 -∗ (rcvSt m ρ c 10 -∗ Kt ⟨⟩)
      -∗ wpc c (k0_part19 xM (Memref.isWhole_whole _) iM (Memref.isWhole_whole _) wM (Memref.isWhole_whole _) oM (Memref.isWhole_whole _)
          gM (Memref.isWhole_whole _) cc0_scratch1 cc0_scratch2 c v2 v633) Kt) := by
  rw [k0_part19_eq_skeleton]; unfold k0_part19_skel
  simp only [semSignalWord, semWaitWord, Prog.lift, Prog.bind_op, Prog.bind_ret, Prog.pure_eq_ret, wp_deviceId]
  iintro #HR HS Hk
  iapply (step_recv m ρ K c 8 8 9 rfl rfl rfl) $$ HR HS; iintro HS
  iapply (step_recv m ρ K c 9 9 10 rfl rfl rfl) $$ HR HS; iintro HS
  rw [wp_ret]; imodintro
  iapply Hk; iexact HS

theorem part20 (c : Dev nD) (v2 : BitVec 32) (Kt : (Σ' (_ : BitVec 32), BitVec 32) → sProp 𝕄) :
    records m ρ K ⊢ iprop(rcvSt m ρ c 10 -∗ (∀ a b, rcvSt m ρ c 13 -∗ Kt ⟨a, b⟩)
      -∗ wpc c (k0_part20 xM (Memref.isWhole_whole _) iM (Memref.isWhole_whole _) wM (Memref.isWhole_whole _) oM (Memref.isWhole_whole _)
          gM (Memref.isWhole_whole _) cc0_scratch1 cc0_scratch2 c v2) Kt) := by
  rw [k0_part20_eq_skeleton]; unfold k0_part20_skel
  simp only [semSignalWord, semWaitWord, Prog.lift, Prog.bind_op, Prog.bind_ret, Prog.pure_eq_ret, wp_deviceId]
  iintro #HR HS Hk
  iapply (step_recv m ρ K c 10 10 11 rfl rfl rfl) $$ HR HS; iintro HS
  iapply (step_recv m ρ K c 11 11 12 rfl rfl rfl) $$ HR HS; iintro HS
  iapply (step_recv m ρ K c 12 12 13 rfl rfl rfl) $$ HR HS; iintro HS
  rw [wp_ret]; imodintro
  iapply Hk; iexact HS

theorem part21 (c : Dev nD) (v2 v690 c24 : BitVec 32) (Kt : (Vec F S384x512 .bf16) → sProp 𝕄) :
    records m ρ K ⊢ iprop(iprop(rcvSt m ρ c 13 ∗ blkPts c c rem (Gall m ρ) ∗ ∃ f, oPts (F := F) c f) -∗ (iprop(ow (F := F) c 0 ∗ landed m ρ c ∗ blkPts c c rem (Gall m ρ) ∗ ∃ f, oPts c (oM.view.writes (Elt F) f [piece2 m ρ c, piece1 m ρ c, piece0 m ρ c])) -∗ Kt (gath m ρ))
      -∗ wpc c (k0_part21 xM (Memref.isWhole_whole _) iM (Memref.isWhole_whole _) wM (Memref.isWhole_whole _) oM (Memref.isWhole_whole _)
          gM (Memref.isWhole_whole _) cc0_scratch1 cc0_scratch2 c v2 (sel0 m ρ c) (sel1 m ρ c) (sel2 m ρ c) v690 c24) Kt) := by
  rw [k0_part21_eq_skeleton]; unfold k0_part21_skel piece2 piece1 piece0
  simp only [semSignalWord, semWaitWord, Prog.lift, Prog.bind_op, Prog.bind_ret, Prog.pure_eq_ret, wp_deviceId]
  iintro #HR ⟨HS, Hrem, ⟨%f, Ho⟩⟩ Hk
  iapply (step_recv m ρ K c 13 13 14 rfl rfl rfl) $$ HR HS; iintro HS
  iapply (step_recv m ρ K c 14 14 15 rfl rfl rfl) $$ HR HS; iintro HS
  ihave HS := (rcv_end m ρ c) $$ HS
  icases HS with ⟨HO, Hb, Hz⟩
  iapply (step_gather m ρ c) $$ [Hrem Hb]
  · isplitl [Hrem] <;> iassumption
  iintro ⟨Hrem, Hb⟩
  iapply (step_look c) $$ Ho; iintro %_ Ho
  iapply (step_out₀ c) $$ Ho; iintro Ho
  iapply (step_look c) $$ Ho; iintro %_ Ho
  iapply (step_out c) $$ Ho; iintro Ho
  iapply (step_look c) $$ Ho; iintro %_ Ho
  iapply (step_out c) $$ Ho; iintro Ho
  unfold wpc; rw [wp_ret]; imodintro
  iapply Hk
  isplitl [HO]; · iexact HO
  isplitl [Hb Hz]
  · unfold landed
    isplitl [Hb] <;> iassumption
  isplitl [Hrem]; · iexact Hrem
  iexists f; iexact Ho

/-! ## The sending waits -/

theorem part22 (c : Dev nD) (Kt : PUnit → sProp 𝕄) :
    records m ρ K ⊢ iprop(iprop(swSt m ρ c 0 ∗ ∃ f, oPts c (oM.view.writes (Elt F) f [piece2 m ρ c, piece1 m ρ c, piece0 m ρ c])) -∗ (iprop(swSt m ρ c 5 ∗ oPts c (outAt m ρ c)) -∗ Kt ⟨⟩)
      -∗ wpc c (k0_part22 xM (Memref.isWhole_whole _) iM (Memref.isWhole_whole _) wM (Memref.isWhole_whole _) oM (Memref.isWhole_whole _)
          gM (Memref.isWhole_whole _) cc0_scratch1 cc0_scratch2 c (sel3 m ρ c) (gath m ρ)) Kt) := by
  rw [k0_part22_eq_skeleton]; unfold k0_part22_skel piece2 piece1 piece0
  simp only [semSignalWord, semWaitWord, Prog.lift, Prog.bind_op, Prog.bind_ret, Prog.pure_eq_ret, wp_deviceId]
  iintro #HR ⟨HS, ⟨%f, Ho⟩⟩ Hk
  iapply (step_look c) $$ Ho; iintro %_ Ho
  iapply (step_out c) $$ Ho; iintro Ho
  iapply (step_sent m ρ K c 0 0 1 rfl rfl rfl) $$ HR HS; iintro HS
  iapply (step_sent m ρ K c 1 1 2 rfl rfl rfl) $$ HR HS; iintro HS
  iapply (step_sent m ρ K c 2 2 3 rfl rfl rfl) $$ HR HS; iintro HS
  iapply (step_sent m ρ K c 3 3 4 rfl rfl rfl) $$ HR HS; iintro HS
  iapply (step_sent m ρ K c 4 4 5 rfl rfl rfl) $$ HR HS; iintro HS
  rw [wp_ret]; imodintro
  iapply Hk
  isplitl [HS]; · iexact HS
  have e := writes_out m ρ c f
  unfold piece3 piece2 piece1 piece0 at e
  rw [← e]
  iexact Ho

theorem part23 (c : Dev nD) (Kt : PUnit → sProp 𝕄) :
    records m ρ K ⊢ iprop(swSt m ρ c 5 -∗ (swSt m ρ c 11 -∗ Kt ⟨⟩)
      -∗ wpc c (k0_part23 xM (Memref.isWhole_whole _) iM (Memref.isWhole_whole _) wM (Memref.isWhole_whole _) oM (Memref.isWhole_whole _)
          gM (Memref.isWhole_whole _) cc0_scratch1 cc0_scratch2 c) Kt) := by
  rw [k0_part23_eq_skeleton]; unfold k0_part23_skel
  simp only [semSignalWord, semWaitWord, Prog.lift, Prog.bind_op, Prog.bind_ret, Prog.pure_eq_ret, wp_deviceId]
  iintro #HR HS Hk
  iapply (step_sent m ρ K c 5 5 6 rfl rfl rfl) $$ HR HS; iintro HS
  iapply (step_sent m ρ K c 6 6 7 rfl rfl rfl) $$ HR HS; iintro HS
  iapply (step_sent m ρ K c 7 7 8 rfl rfl rfl) $$ HR HS; iintro HS
  iapply (step_sent m ρ K c 8 8 9 rfl rfl rfl) $$ HR HS; iintro HS
  iapply (step_sent m ρ K c 9 9 10 rfl rfl rfl) $$ HR HS; iintro HS
  iapply (step_sent m ρ K c 10 10 11 rfl rfl rfl) $$ HR HS; iintro HS
  rw [wp_ret]; imodintro
  iapply Hk; iexact HS

end Cert.KProof

end
-- ==== Proof.Body.lean ====
/-
# The body

The parts put together: what a device starts from, what it ends with, and the pipeline's obligation for the body.
-/
module

public import proofs.«01_k».proof.Proof.Parts
public import proofs.«01_k».proof.Proof.Gen.KernelIdeal.Points

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays. -/
def payToks (c : Dev nD) : sProp 𝕄 :=
  iprop((bigSep Finset.univ fun j : Fin 15 => (dutyTok ER (barCell (fwd c j)) 0 j : sProp 𝕄)) ∗ sndToks (F := F) c)
/-- Its positions in its own cells' rounds. -/
def posns (c : Dev nD) : sProp 𝕄 :=
  iprop(atPos ER (barCell c) 0 ∅ 0 ∗ (bigSep Finset.univ fun j : Fin 15 => (atPos ER (sendCell c j) 0 ∅ 0 : sProp 𝕄))
    ∗ bigSep Finset.univ fun j : Fin 15 => (atPos ER (recvCell c j) 0 ∅ 0 : sProp 𝕄))
def ghost (K : Dev nD × CI → ℕ) (c : Dev nD) : sProp 𝕄 := iprop(records m ρ K ∗ posns (F := F) c ∗ payToks (F := F) c)
/-- The credit of its own waits: its barrier's fifteen units, its fifteen landings. -/
def credits (c : Dev nD) : sProp 𝕄 :=
  iprop(cred (tallyAt (barCell c) () 15) ∗ bigSep Finset.univ fun j : Fin 15 => (cred (tallyAt (recvCell c j) () N) : sProp 𝕄))
def start (c : Dev nD) : sProp 𝕄 := iprop((∃ K, ghost m ρ K c) ∗ credits (F := F) c ∗ levAts L lv)

def Φ₀ (c : Dev nD) : sProp 𝕄 := iprop(start m ρ c ∗ ∃ f, (((c : Thread nD τ).loc cc0_scratch0) ↦{fullShare} f : sProp 𝕄))
def Φ₁ (c : Dev nD) : sProp 𝕄 :=
  iprop((((c : Thread nD τ).loc cc0_scratch0) ↦{fullShare} Gall m ρ) ∗ (bigSep Finset.univ fun j : Fin 15 => (semVal (sendCell c j) 0 : sProp 𝕄))
    ∗ (bigSep Finset.univ fun j : Fin 15 => (semVal (recvCell c j) 0 : sProp 𝕄)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => rs m ρ c
    | ⟨2, _⟩ => ws m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_intro (c : Dev nD) (b : Ref sig .tc) (X : b.ty.Contents (Elt F)) :
    (((c : Thread nD τ).loc b) ↦{fullShare} X : sProp 𝕄) ⊢ stg c b X := by
  iintro H; iexists X; isplitr; · (ipureintro; rfl)
  iexact H

/-! ## The body, part after part -/

theorem wpb (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc; exact Entails.of_eq (wp_bind _ _ _ _ _ Q).symm

def bodyPre (K : Dev nD × CI → ℕ) (c : Dev nD) : sProp 𝕄 :=
  iprop((ghost m ρ K c ∗ credits (F := F) c ∗ levAts L lv ∗ ∃ f, (((c : Thread nD τ).loc cc0_scratch0) ↦{fullShare} f : sProp 𝕄))
    ∗ ow (F := F) c (O₀ c) ∗ xPts m ρ c ∗ iPts m ρ c ∗ wPts m ρ c ∗ ∃ f, oPts (F := F) c f)
def bodyPost (c : Dev nD) : sProp 𝕄 :=
  iprop(Φ₁ m ρ c ∗ ow (F := F) c 0 ∗ xPts m ρ c ∗ iPts m ρ c ∗ wPts m ρ c ∗ oPts c (outAt m ρ c))

theorem sig_start (c : Dev nD) :
    iprop(ow (F := F) c (O₀ c) ∗ (bigSep Finset.univ fun j : Fin 15 => (dutyTok ER (barCell (fwd c j)) 0 j : sProp 𝕄))
        ∗ bigSep Finset.univ fun j : Fin 15 => iprop(∃ f, blkPts (F := F) c (fwd c j) fullShare f)) ⊢ sigSt (F := F) c 0 := by
  unfold sigSt
  rw [since_zero, bigSep_sep']
  exact Entails.of_eq rfl

theorem sig_end (c : Dev nD) : sigSt (F := F) c 15 ⊢ ow (F := F) c (oSnd c 0) := by
  unfold sigSt
  rw [since_end, bigSep_empty, oSig_end, add_zero]
  iintro ⟨H, -⟩; iexact H

theorem sound_body (K : Dev nD × CI → ℕ) (c : Dev nD) (Kt : PUnit → sProp 𝕄) :
    iprop(bodyPre m ρ K c ∗ (bodyPost m ρ c -∗ Kt ⟨⟩))
      ⊢ wpc c (cc0__body xM (Memref.isWhole_whole _) iM (Memref.isWhole_whole _) wM (Memref.isWhole_whole _) oM (Memref.isWhole_whole _)
          gM (Memref.isWhole_whole _) cc0_scratch1 cc0_scratch2) Kt := by
  rw [cc0__body_eq_skeleton]; unfold cc0__body_skel
  unfold bodyPre ghost posns payToks credits
  iintro ⟨⟨⟨⟨#HR, ⟨HatB, HatS, HatV⟩, HtB, HtSV⟩, ⟨HcB, HcV⟩, #Hlev, Hscr⟩, HO, Hx, Hi, Hw, Ho⟩, Hk⟩
  ihave Hs := (all_out (F := F) c) $$ Hscr
  icases Hs with ⟨Hown, Hoth⟩
  ihave HS := (sig_start (F := F) c) $$ [HO HtB Hoth]
  · isplitl [HO]; · iexact HO
    isplitl [HtB] <;> iassumption
  iapply wpb
  iapply (part1 m ρ K c) $$ HR HS
  iintro %a %b HS
  try dsimp only
  iapply wpb
  iapply (part2 m ρ K c) $$ HR HS
  iintro %a %b HS
  try dsimp only
  iapply wpb
  iapply (part3 m ρ K c) $$ HR [HS Hi]
  · isplitl [HS] <;> iassumption
  iintro ⟨HS, Hi⟩
  try dsimp only
  iapply wpb
  iapply part4
  try dsimp only
  iapply wpb
  iapply (part5 m ρ c) $$ Hx Hw
  iintro Hx Hw
  try dsimp only
  iapply wpb
  iapply (part6 m ρ c) $$ Hw
  iintro Hw
  try dsimp only
  iapply wpb
  iapply (part7 m ρ c) $$ Hw
  iintro Hw
  try dsimp only
  iapply wpb
  ihave HO := (sig_end (F := F) c) $$ HS
  iapply (part8 m ρ K c) $$ HR [HO HcB HatB Hw Hown HtSV]
  · unfold midSt
    isplitl [HO]; · iexact HO
    isplitr; · iexact Hlev
    isplitl [HcB]; · iexact HcB
    isplitl [HatB]; · iexact HatB
    isplitl [Hw]; · iexact Hw
    isplitl [Hown] <;> iassumption
  iintro %a ⟨HS, Hkeep⟩
  unfold keepSt
  icases Hkeep with ⟨Hrem, HzB, Hw⟩
  iapply wpb
  iapply (part9 m ρ K c) $$ HR HS
  iintro HS
  iapply wpb
  iapply (part10 m ρ K c) $$ HR HS
  iintro %a %b HS
  try dsimp only
  iapply wpb
  iapply (part11 m ρ K c) $$ HR HS
  iintro %a HS
  try dsimp only
  iapply wpb
  iapply (part12 m ρ K c) $$ HR HS
  iintro HS
  try dsimp only
  iapply wpb
  iapply (part13 m ρ K c) $$ HR HS
  iintro %a %b HS
  try dsimp only
  iapply wpb
  iapply (part14 m ρ K c) $$ HR HS
  iintro HS
  try dsimp only
  iapply wpb
  iapply (part15 m ρ c)
  iintro %a
  try dsimp only
  ihave Hs := (snd_end m ρ c) $$ HS [HcV HatV]
  · unfold rcvRes
    rw [bigSep_sep']
    isplitl [HcV] <;> iassumption
  icases Hs with ⟨HS, HcS⟩
  iapply wpb
  iapply (part16 m ρ K c) $$ HR HS
  iintro HS
  try dsimp only
  iapply wpb
  iapply (part17 m ρ K c) $$ HR HS
  iintro %a HS
  try dsimp only
  iapply wpb
  iapply (part18 m ρ K c) $$ HR HS
  iintro %a HS
  try dsimp only
  iapply wpb
  iapply (part19 m ρ K c) $$ HR HS
  iintro HS
  try dsimp only
  iapply wpb
  iapply (part20 m ρ K c) $$ HR HS
  iintro %a %b HS
  try dsimp only
  iapply wpb
  iapply (part21 m ρ K c) $$ HR [HS Hrem Ho]
  · isplitl [HS]; · iexact HS
    isplitl [Hrem] <;> iassumption
  iintro ⟨HO, Hland, Hrem, Ho⟩
  try dsimp only
  ihave HS := (sw_start m ρ c) $$ [HO HcS HatS]
  · isplitl [HO]; · iexact HO
    isplitl [HcS] <;> iassumption
  iapply wpb
  iapply (part22 m ρ K c) $$ HR [HS Ho]
  · isplitl [HS] <;> iassumption
  iintro ⟨HS, Ho⟩
  try dsimp only
  iapply wpb
  iapply (part23 m ρ K c) $$ HR HS
  iintro HS
  unfold wpc
  simp only [Prog.lift, Prog.bind_op, Prog.bind_ret, Prog.pure_eq_ret]
  iapply (step_sent m ρ K c 11 11 12 rfl rfl rfl) $$ HR HS; iintro HS
  iapply (step_sent m ρ K c 12 12 13 rfl rfl rfl) $$ HR HS; iintro HS
  iapply (step_sent m ρ K c 13 13 14 rfl rfl rfl) $$ HR HS; iintro HS
  iapply (step_sent m ρ K c 14 14 15 rfl rfl rfl) $$ HR HS; iintro HS
  rw [wp_ret]; imodintro
  iapply Hk
  ihave Hs := (sw_end m ρ c) $$ HS
  icases Hs with ⟨HO, Htok, HzS⟩
  unfold landed bodyPost Φ₁
  icases Hland with ⟨Hb, HzV⟩
  isplitl [Hrem Htok Hb HzS HzV HzB]
  · isplitl [Hrem Htok Hb]
    · iapply (all_back m ρ c)
      isplitl [Hrem]; · iexact Hrem
      isplitl [Htok] <;> iassumption
    isplitl [HzS]; · iexact HzS
    isplitl [HzV] <;> iassumption
  isplitl [HO]; · iexact HO
  isplitl [Hx]; · iexact Hx
  isplitl [Hi]; · iexact Hi
  isplitl [Hw] <;> iassumption

/-! ## The pipeline's obligation -/

def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost' (c : Dev nD) : sProp 𝕄 :=
  iprop(Φ₁ m ρ c ∗ (dats m ρ 0 c).owesAt () t0_0.succ ∗ stg c cc0_stg0_0 (xs m ρ c) ∗ stg c cc0_stg1_0 (rs m ρ c)
    ∗ stg c cc0_stg2_0 (ws m ρ c) ∗ stg c cc0_stg3_0 (outAt m ρ c))

theorem before_0 (c : Dev nD) (d) : (dats m ρ 0 c).before (0 : Fin 4) t0_0 d = xs m ρ c := by
  unfold Dat.before; rw [if_pos (fetch0_0 t0_0)]; rfl
theorem before_1 (c : Dev nD) (d) : (dats m ρ 0 c).before (1 : Fin 4) t0_0 d = rs m ρ c := by
  unfold Dat.before; rw [if_pos (fetch0_1 t0_0)]; rfl
theorem before_2 (c : Dev nD) (d) : (dats m ρ 0 c).before (2 : Fin 4) t0_0 d = ws m ρ c := by
  unfold Dat.before; rw [if_pos (fetch0_2 t0_0)]; rfl

theorem owes_in (c : Dev nD) : (dats m ρ 0 c).owesAt () t0_0.castSucc ⊢ ow (F := F) c (O₀ c) := by
  unfold Dat.owesAt Pipeline.owesWithin ow
  rw [show (dats m ρ 0 c).owed t0_0.castSucc = O₀ c from rfl]
  iintro ⟨%W, %hW, HO⟩
  iexists W; iexact HO
theorem owes_out (c : Dev nD) : ow (F := F) c 0 ⊢ (dats m ρ 0 c).owesAt () t0_0.succ := by
  unfold Dat.owesAt Pipeline.owesWithin ow
  rw [show (dats m ρ 0 c).owed t0_0.succ = 0 from rfl]
  iintro ⟨%W, HO⟩
  iexists W
  isplitr; · ipureintro; exact fun _ _ => Or.inl trivial
  iexact HO

theorem pre_in (c : Dev nD) : bodyPre' m ρ c ⊢ iprop(∃ K, bodyPre m ρ K c) := by
  unfold bodyPre' Φ₀ start bodyPre
  iintro ⟨⟨⟨⟨%K, Hg⟩, Hc, Hl⟩, Hscr⟩, HO, ⟨%d0, %g0, %h0, Hx⟩, ⟨%d1, %g1, %h1, Hi⟩, ⟨%d2, %g2, %h2, Hw⟩, ⟨%d3, %g3, %h3, Ho⟩⟩
  have e0 := h0.trans (before_0 m ρ c d0)
  have e1 := h1.trans (before_1 m ρ c d1)
  have e2 := h2.trans (before_2 m ρ c d2)
  subst e0 e1 e2
  iexists K
  isplitl [Hg Hc Hl Hscr]
  · isplitl [Hg]; · iexact Hg
    isplitl [Hc]; · iexact Hc
    isplitl [Hl] <;> iassumption
  isplitl [HO]; · iapply (owes_in m ρ c); iexact HO
  isplitl [Hx]; · iexact Hx
  isplitl [Hi]; · iexact Hi
  isplitl [Hw]; · iexact Hw
  iexists g3; iexact Ho

theorem post_out (c : Dev nD) : bodyPost m ρ c ⊢ bodyPost' m ρ c := by
  unfold bodyPost bodyPost'
  iintro ⟨HΦ, HO, Hx, Hi, Hw, Ho⟩
  isplitl [HΦ]; · iexact HΦ
  isplitl [HO]; · iapply (owes_out m ρ c); iexact HO
  isplitl [Hx]; · iapply (stg_intro c cc0_stg0_0); iexact Hx
  isplitl [Hi]; · iapply (stg_intro c cc0_stg1_0); iexact Hi
  isplitl [Hw]; · iapply (stg_intro c cc0_stg2_0); iexact Hw
  iapply (stg_intro c cc0_stg3_0); iexact Ho

set_option maxRecDepth 60000 in
/-- The pipeline's obligation for the body, on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre' m ρ c ⊢ wpc c (cc0__body xM (Memref.isWhole_whole _) iM (Memref.isWhole_whole _) wM (Memref.isWhole_whole _) oM (Memref.isWhole_whole _)
          gM (Memref.isWhole_whole _) cc0_scratch1 cc0_scratch2) (fun _ => bodyPost' m ρ c)
  iintro H
  ihave H := (pre_in m ρ c) $$ H
  icases H with ⟨%K, H⟩
  iapply (sound_body m ρ K c fun _ => bodyPost' m ρ c)
  isplitl [H]; · iexact H
  iintro H
  iapply (post_out m ρ c); iexact H

end Cert.KProof

end
-- ==== Proof.Run.lean ====
/-
# The launch

The cells' protocol records made at launch, the duty tokens dealt to the devices that pay, and the run of the whole mesh.
-/
module

public import proofs.«01_k».proof.Proof.Body
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem csem_injective : Function.Injective csem := by decide

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def meshCells : Finset (GSem nD τ sig) := Finset.univ.map ⟨kcell, kcell_injective⟩

/-- The duties by device and kind: a barrier's fifteen, and one for each sending and each receiving cell. -/
abbrev TI : Type := Fin 15 ⊕ (Fin 15 ⊕ Fin 15)
abbrev tokC (k : TI) : SemLoc sig × ℕ × Fin 15 := match k with
  | .inl j => (.reg barS, 0, j) | .inr (.inl j) => (.dma (sendS j), 0, 0) | .inr (.inr j) => (.dma (recvS j), 0, 0)
abbrev tokOf (ck : Dev nD × TI) : GSem nD τ sig × ℕ × Fin 15 := (((ck.1 : Thread nD τ), (tokC ck.2).1), (tokC ck.2).2)

theorem tokC_injective : Function.Injective tokC := by decide

theorem tokOf_injective : Function.Injective (tokOf : Dev nD × TI → GSem nD τ sig × ℕ × Fin 15) := by
  rintro ⟨c, k⟩ ⟨c', k'⟩ h
  have h1 : c = c' := congrArg (fun g : GSem nD τ sig × ℕ × Fin 15 => g.1.1.1) h
  have h2 : k = k' := tokC_injective (Prod.ext (congrArg (fun g : GSem nD τ sig × ℕ × Fin 15 => g.1.2) h) (congrArg (fun g : GSem nD τ sig × ℕ × Fin 15 => g.2) h))
  rw [h1, h2]

def meshToks : Finset (GSem nD τ sig × ℕ × Fin 15) := Finset.univ.map ⟨tokOf, tokOf_injective⟩

def u₀ : UU :=
  (initOf (Pipeline.cells cfgs cellOf_inj) (Pipeline.launchToks cfgs cellOf_inj), initOf meshCells meshToks)

/-- The tokens of the duties of device `c`'s own cells. -/
def toks (c : Dev nD) : sProp 𝕄 :=
  iprop((bigSep Finset.univ fun j : Fin 15 => (dutyTok ER (barCell c) 0 j : sProp 𝕄))
    ∗ (bigSep Finset.univ fun j : Fin 15 => (dutyTok ER (sendCell c j) 0 0 : sProp 𝕄))
    ∗ bigSep Finset.univ fun j : Fin 15 => (dutyTok ER (recvCell c j) 0 0 : sProp 𝕄))

def G (c : Dev nD) : sProp 𝕄 :=
  iprop((bigSep Finset.univ fun k : CI => roundState ER (xRd m ρ) (kcell (c, k)) 0)
    ∗ (bigSep Finset.univ fun k : CI => atPos ER (kcell (c, k)) 0 ∅ 0) ∗ (bigSep Finset.univ fun k : CI => reached ER (kcell (c, k)) 0)
    ∗ toks (F := F) c)

def G' (c : Dev nD) : sProp 𝕄 := iprop(∃ K, ghost m ρ K c)

/-- Over the exchange's cells of a device: its barrier, its sending cells, its receiving cells. -/
theorem bigSep_CI (Φ : CI → sProp 𝕄) : bigSep Finset.univ Φ
    = iprop(Φ bI ∗ (bigSep Finset.univ fun j : Fin 15 => Φ (sI j)) ∗ bigSep Finset.univ fun j : Fin 15 => Φ (rI j)) := by
  rw [bigSep_univ_sum, bigSep_univ_sum, show (Finset.univ : Finset Unit) = {()} from rfl, bigSep_singleton]
  rfl

theorem bigSep_TI (Φ : TI → sProp 𝕄) : bigSep Finset.univ Φ
    = iprop((bigSep Finset.univ fun j : Fin 15 => Φ (.inl j)) ∗ (bigSep Finset.univ fun j : Fin 15 => Φ (.inr (.inl j)))
        ∗ bigSep Finset.univ fun j : Fin 15 => Φ (.inr (.inr j))) := by
  rw [bigSep_univ_sum, bigSep_univ_sum]; rfl

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CI => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks (F := F) c := by
    unfold meshToks; rw [bigSep_map, bigSep_univ_prod]
    exact bigSep_congr fun c _ => by unfold toks; rw [bigSep_TI]; rfl
  iintro HX
  imod (Rounds.fund ER (xRd m ρ) meshCells meshToks) $$ HX with ⟨Hst, Hr, Hat, Htok⟩
  imodintro
  ihave Hst' := (Entails.of_eq (hX fun g => roundState ER (xRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun j : Fin 15 => semVal (recvCell c j) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨H, HB⟩
  isplitl [HB]; · iexact HB
  iexact H

theorem alloc_cells (c : Dev nD) :
    iprop((bigSep Finset.univ fun k : CI => semVal (kcell (c, k)) 0) ∗ bigSep Finset.univ fun k : CI => roundState ER (xRd m ρ) (kcell (c, k)) 0)
      ⊢ (|={Set.univ}=> bigSep Finset.univ fun k : CI => iprop(∃ κ : ℕ, cellInv ER (xRd m ρ) κ (kcell (c, k))) : sProp 𝕄) := by
  rw [← bigSep_sep']
  exact (bigSep_mono fun k _ => (Rounds.body_intro ER (xRd m ρ) (kcell (c, k))).trans inv_alloc).trans (bigSep_fupd _ _)

/-- What the global step takes of each device once its cells' records exist. -/
def made (c : Dev nD) : sProp 𝕄 :=
  iprop((bigSep Finset.univ fun k : CI => iprop(∃ κ : ℕ, cellInv ER (xRd m ρ) κ (kcell (c, k))))
    ∗ (bigSep Finset.univ fun k : CI => atPos ER (kcell (c, k)) 0 ∅ 0) ∗ (bigSep Finset.univ fun k : CI => reached ER (kcell (c, k)) 0)
    ∗ toks (F := F) c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  unfold G made
  iintro ⟨Hos, Hus, Hst, Hrest⟩
  ihave Hv := (sems0_eq (F := F) c) $$ [Hos Hus]
  · isplitl [Hos] <;> iassumption
  imod (alloc_cells m ρ c) $$ [Hv Hst] with Hinv
  · isplitl [Hv] <;> iassumption
  imodintro
  isplitl [Hinv]; · iexact Hinv
  iexact Hrest

/-! ## The tokens dealt to the devices that pay -/

theorem bigSep_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun ab : α × β => Φ ab.1 ab.2), ← bigSep_univ_prod (fun ba : β × α => Φ ba.2 ba.1),
    bigSep_univ_equiv (Equiv.prodComm α β) (fun ba : β × α => Φ ba.2 ba.1)]
  rfl

/-- Dealing, for each distance, every device's token to the device that far before it. -/
theorem bigSep_hop (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (fwd c j) j := by
  rw [bigSep_swap, bigSep_swap fun (c : Dev nD) (j : Fin 15) => Φ (fwd c j) j]
  exact bigSep_congr fun j _ => bigSep_univ_equiv (hop j) fun c => Φ c j

theorem payToks_eq (c : Dev nD) : payToks (F := F) c
    = iprop((bigSep Finset.univ fun j : Fin 15 => (dutyTok ER (barCell (fwd c j)) 0 j : sProp 𝕄))
      ∗ (bigSep Finset.univ fun j : Fin 15 => (dutyTok ER (sendCell c j) 0 0 : sProp 𝕄))
      ∗ bigSep Finset.univ fun j : Fin 15 => (dutyTok ER (recvCell (fwd c j) j) 0 0 : sProp 𝕄)) := by
  unfold payToks sndToks; rw [bigSep_sep']

theorem toks_around : (bigSep Finset.univ fun c : Dev nD => toks (F := F) c) = bigSep Finset.univ fun c : Dev nD => payToks (F := F) c := by
  rw [bigSep_congr (s := Finset.univ) fun c _ => payToks_eq (F := F) c]
  unfold toks
  rw [bigSep_sep', bigSep_sep', bigSep_sep', bigSep_sep',
    bigSep_hop fun c j => (dutyTok ER (barCell c) 0 j : sProp 𝕄), bigSep_hop fun c j => (dutyTok ER (recvCell c j) 0 0 : sProp 𝕄)]

theorem ghost_intro (K : Dev nD × CI → ℕ) (c : Dev nD) : iprop(records m ρ K ∗ (posns (F := F) c ∗ payToks (F := F) c)) ⊢ G' m ρ c := by
  unfold G' ghost
  iintro H; iexists K; iexact H

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem names (Φ : Dev nD × CI → ℕ → sProp 𝕄) :
    (bigSep Finset.univ fun c : Dev nD => bigSep Finset.univ fun k : CI => iprop(∃ κ : ℕ, Φ (c, k) κ))
      ⊢ iprop(∃ K : Dev nD × CI → ℕ, bigSep Finset.univ fun ck => Φ ck (K ck)) := by
  rw [← bigSep_univ_prod fun ck : Dev nD × CI => iprop(∃ κ : ℕ, Φ ck κ)]
  exact BI.bigSep_exists_pi Finset.univ Φ

theorem regroup : (bigSep Finset.univ fun c : Dev nD => made m ρ c) ⊢ bigSep Finset.univ (G' m ρ) := by
  unfold made
  rw [bigSep_sep', bigSep_sep', bigSep_sep', ← bigSep_univ_prod (fun ck : Dev nD × CI => (reached ER (kcell ck) 0 : sProp 𝕄)), toks_around]
  iintro ⟨HI, Hat, #HR, Htok⟩
  ihave HK := (names fun ck κ => (cellInv ER (xRd m ρ) κ (kcell ck) : sProp 𝕄)) $$ HI
  icases HK with ⟨%K, #HI⟩
  iapply (bigSep_beside (R := records m ρ K) fun c _ => ghost_intro m ρ K c)
  isplitr
  · unfold records; isplitl; · iexact HI
    iexact HR
  · rw [bigSep_sep']
    isplitl [Hat]
    · unfold posns; simp only [bigSep_CI]; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

theorem tally_sum (S : Finset (Fin 15)) (f : Fin 15 → CellTallies nD τ sig Unit) (g : GSem nD τ sig) :
    (∑ j ∈ S, f j) g () = ∑ j ∈ S, f j g () := by
  rw [Finset.sum_apply, Finsupp.finset_sum_apply]

theorem bar_ne_dma (a b : Dev nD) (s : DmaSem sig) : barCell a ≠ ((b : Thread nD τ), SemLoc.dma s) := fun h => by
  have := congrArg Prod.snd h; cases this

theorem bar_eq (a b : Dev nD) : barCell a = barCell b ↔ a = b :=
  ⟨fun h => congrArg (fun g : GSem nD τ sig => g.1.1) h, fun h => h ▸ rfl⟩
theorem recv_eq (a b : Dev nD) (j j' : Fin 15) : recvCell a j = recvCell b j' ↔ a = b ∧ j = j' :=
  ⟨fun h => ⟨congrArg (fun g : GSem nD τ sig => g.1.1) h, by
      have h2 : SemLoc.dma (recvS j) = (SemLoc.dma (recvS j') : SemLoc sig) := congrArg Prod.snd h
      injection h2 with h3
      have := congrArg rIx h3; rwa [rIx_recvS, rIx_recvS] at this⟩,
    fun h => by rw [h.1, h.2]⟩

theorem eq_fwd (c d : Dev nD) (j : Fin 15) : c = fwd d j ↔ d = bwd c j :=
  ⟨fun h => by rw [h, bwd_fwd], fun h => by rw [h, fwd_bwd]⟩

/-- What device `d` owes device `c`'s barrier: one unit for each distance from `d` to `c`. -/
theorem owed_bar (d c : Dev nD) : O₀ d (barCell c) () = ∑ j : Fin 15, if d = bwd c j then 1 else 0 := by
  unfold O₀ oSnd oSig
  rw [Pi.add_apply, Finsupp.add_apply, tally_sum, tally_sum, since_zero,
    Finset.sum_eq_zero fun j _ => by rw [tallyAt_ne_cell (bar_ne_dma _ _ _)]; rfl, Nat.zero_add]
  refine Finset.sum_congr rfl fun j _ => ?_
  rw [tallyAt_apply]
  exact if_congr (by rw [bar_eq, and_iff_left rfl, eq_fwd]) rfl rfl

/-- And its receiving cell `j`: a block's credit if `c` is `j + 1` places on. -/
theorem owed_recv (d c : Dev nD) (j : Fin 15) : O₀ d (recvCell c j) () = if d = bwd c j then N else 0 := by
  unfold O₀ oSnd oSig
  rw [Pi.add_apply, Finsupp.add_apply, tally_sum, tally_sum, since_zero,
    Finset.sum_eq_zero (f := fun j' => tallyAt (barCell (fwd d j')) () 1 (recvCell c j) ()) fun j' _ => by
      rw [tallyAt_ne_cell (bar_ne_dma _ _ _).symm]; rfl, Nat.add_zero]
  rw [Finset.sum_eq_single j]
  · rw [tallyAt_apply]
    exact if_congr (by rw [recv_eq, and_iff_left rfl, and_iff_left rfl, eq_fwd]) rfl rfl
  · intro j' _ hj
    rw [tallyAt_apply, if_neg]
    rintro ⟨h, -⟩
    exact hj ((recv_eq _ _ _ _).mp h).2.symm
  · intro h; exact absurd (Finset.mem_univ _) h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (bwd c j) fun _ => 1).trans (if_pos (Finset.mem_univ _))]
  rfl

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (bwd c j) fun _ => N,
    if_pos (Finset.mem_univ _)]

theorem recvS_injective : Function.Injective fun j : Fin 15 => (SemLoc.dma (recvS j) : SemLoc sig) := by decide

/-- The launch's credit holds that of the device's own waits. -/
theorem creds (c : Dev nD) : (Pipeline.launchCred O₀ c : sProp 𝕄) ⊢ credits (F := F) c := by
  unfold Pipeline.launchCred credits
  rw [bigSep_univ_at _ (SemLoc.reg barS), launch_bar]
  refine sep_mono_right ?_
  rw [bigSep_congr (s := Finset.univ) fun (j : Fin 15) _ => congrArg (fun t => (cred t : sProp 𝕄)) (launch_recv c j).symm]
  have hm := bigSep_map (s := Finset.univ) (Φ := fun sm => (cred (tallyOn ((c : Thread nD τ), sm) (launchCredit (Pipeline.owing O₀) 0 ((c : Thread nD τ), sm))) : sProp 𝕄))
    ⟨fun j : Fin 15 => (SemLoc.dma (recvS j) : SemLoc sig), recvS_injective⟩
  refine BIBase.Entails.trans (bigSep_subset ?_) (Entails.of_eq hm)
  intro sm h
  obtain ⟨j, -, rfl⟩ := Finset.mem_map.mp h
  exact Finset.mem_erase.mpr ⟨fun h => (by cases h), Finset.mem_univ _⟩

/-! ## The theorem's side conditions -/

theorem rest_eq (c : Dev nD) (V : (b : Ref sig .tc) → Buf (Elt F) ((c : Thread nD τ).loc b)) :
    (Pipeline.unscopedRestP (Ix := Unit) (Name := ℕ) (U := UU) (Lvl := ℕ) Pipeline.Prefetch.none cfg0.spec c V : sProp 𝕄)
      = iprop(((c : Thread nD τ).loc main_arg1) ↦{fullShare} V main_arg1) :=
  Pipeline.unscopedRestP_eq_of_list cfg0.spec c Pipeline.Prefetch.none V [main_arg1] (by decide) (by decide)

def aside (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ aside m c) := by
  rw [rest_eq]
  iintro ⟨H1, Hlev, Hcr, -, HG⟩
  ihave Hc := (creds (F := F) c) $$ Hcr
  imodintro
  unfold start G' aside
  isplitr [H1]
  · isplitl [HG]; · iexact HG
    isplitl [Hc]; · iexact Hc
    iexact Hlev
  · iexact H1

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexists (Gall m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What one device's memory and counters read at the end, beside the kernel's arrays. -/
def atEnd (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- At the mesh of sixteen devices, for any float values, from any memory with zero counters: every weakly fair execution
    terminates, each of the kernel's arrays ends at the computed contents, the routing weights unchanged, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := aside m)
    (hX := start_intro m ρ) (hin := phi0_intro m ρ) (hout := phi1_exit m ρ)
    (QY := atEnd m)
    (hY := fun c s' => by
      unfold aside atEnd
      iintro ⟨Hu, H1, HSI⟩
      icombine HSI H1 gives %h1
      imod (Pipeline.unscopedSems0_read (X := unscopedSems0 c) (c := c) fupd_intro s') $$ [Hu HSI] with ⟨%h2, HSI⟩
      · isplitl [Hu] <;> iassumption
      imodintro
      isplitr; · ipureintro; exact ⟨Buf.eq_of_forall_mem_univ h1, h2⟩
      iexact HSI)
    (hQ := fun _ h hs => ⟨fun c => ⟨fun w => (h c).1 w, (h c).2.2.1⟩, sem_eq_zero hs fun c => (h c).2.2.2⟩)

theorem final_0 (c : Dev nD) : finalA m ρ c (0 : Fin 4) = m ((c : Thread nD τ).loc main_arg0) :=
  (dats (F := F) m ρ 0 c).arrAt_in (0 : Fin 4) rfl _
theorem final_1 (c : Dev nD) : finalA m ρ c (1 : Fin 4) = m ((c : Thread nD τ).loc main_arg2) :=
  (dats (F := F) m ρ 0 c).arrAt_in (1 : Fin 4) rfl _
theorem final_2 (c : Dev nD) : finalA m ρ c (2 : Fin 4) = m ((c : Thread nD τ).loc main_arg3) :=
  (dats (F := F) m ρ 0 c).arrAt_in (2 : Fin 4) rfl _

/-- Every argument of every device ends as it was, and every counter at zero. -/
theorem frame_run : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨((h.1 c).1 (0 : Fin 4)).trans (final_0 m ρ c), (h.1 c).2,
    ((h.1 c).1 (1 : Fin 4)).trans (final_1 m ρ c), ((h.1 c).1 (2 : Fin 4)).trans (final_2 m ρ c)⟩, h.2⟩) (run_main m ρ)

end Cert.KProof

end
-- ==== Proof.Words.lean ====
/-
# Bits and small numbers

A comparison's bit as the truth of what it compares, a bit or a small number made a float, and sums of bits.
-/
module

public import Idealize.ShloMosaic.Lib.Pointwise

@[expose] public section

noncomputable section

namespace Cert.KProof

open Idealize.ShloMosaic

/-- A bit widened and made a float is 1 or 0. -/
theorem float_bit (p : Prop) [Decidable p] :
    (FloatOps.sitofp (F := Ideal) .f32 (BitVec.setWidth 32 (BitVec.ofBool (decide p))) : EReal) = if p then 1 else 0 := by
  by_cases h : p
  · simp only [h, decide_true, if_true]
    show ((((BitVec.setWidth 32 (BitVec.ofBool true)).toInt : ℤ) : ℝ) : EReal) = 1
    rw [show (BitVec.setWidth 32 (BitVec.ofBool true)).toInt = 1 from by decide]
    norm_num
  · simp only [h, decide_false, if_false]
    show ((((BitVec.setWidth 32 (BitVec.ofBool false)).toInt : ℤ) : ℝ) : EReal) = 0
    rw [show (BitVec.setWidth 32 (BitVec.ofBool false)).toInt = 0 from by decide]
    norm_num

/-- A small number as a float. -/
theorem float_ofNat {n : ℕ} (h : n < 2 ^ 31) :
    (FloatOps.sitofp (F := Ideal) .f32 (BitVec.ofNat 32 n) : EReal) = ((n : ℝ) : EReal) := by
  show ((((BitVec.ofNat 32 n).toInt : ℤ) : ℝ) : EReal) = _
  rw [BitVec.toInt_ofNat', Int.bmod_eq_of_le (by omega) (by omega)]
  norm_num

theorem cmpi_eq_bit {w : ℕ} (a b : BitVec w) : IntOp.cmpi .eq a b = BitVec.ofBool (decide (a = b)) := by
  show BitVec.ofBool (a == b) = _
  rfl

theorem cmpi_sle_small {a b : ℕ} (ha : a < 2 ^ 31) (hb : b < 2 ^ 31) :
    IntOp.cmpi .sle (BitVec.ofNat 32 a) (BitVec.ofNat 32 b) = BitVec.ofBool (decide (a ≤ b)) := by
  show BitVec.ofBool ((BitVec.ofNat 32 a).sle (BitVec.ofNat 32 b)) = _
  congr 1
  rw [BitVec.sle_eq_decide, BitVec.toInt_ofNat', BitVec.toInt_ofNat', Int.bmod_eq_of_le (by omega) (by omega),
    Int.bmod_eq_of_le (by omega) (by omega)]
  norm_num

theorem andi_bits (p q : Prop) [Decidable p] [Decidable q] :
    IntOp.andi (BitVec.ofBool (decide p)) (BitVec.ofBool (decide q)) = BitVec.ofBool (decide (p ∧ q)) := by
  by_cases hp : p <;> by_cases hq : q <;> simp only [hp, hq, decide_true, decide_false, and_true, and_false, and_self] <;> rfl

/-- A sum of zeros and ones counts the ones. -/
theorem sum_bits {ι : Type} [Fintype ι] (p : ι → Prop) [DecidablePred p] :
    (∑ i, (if p i then (1 : EReal) else 0)) = (((Finset.univ.filter p).card : ℝ) : EReal) := by
  rw [Finset.sum_boole]
  simp

/-- Small numbers compared, -/
theorem cmpi_slt_small {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_ofNat', BitVec.toInt_ofNat', Int.bmod_eq_of_le (by omega) (by omega),
    Int.bmod_eq_of_le (by omega) (by omega)]
  norm_num

/-- and a word found in a range that starts at zero. -/
theorem in_range (v : BitVec 32) :
    IntOp.andi (IntOp.cmpi .sge v 0#32) (IntOp.cmpi .slt v 64#32) = BitVec.ofBool (decide (v.toNat < 64)) := by
  have hl := v.isLt
  have e : IntOp.cmpi .sge v 0#32 = BitVec.ofBool (decide (0 ≤ v.toInt)) := by
    show BitVec.ofBool ((0#32).sle v) = _
    rw [BitVec.sle_eq_decide]
    rfl
  have f : IntOp.cmpi .slt v 64#32 = BitVec.ofBool (decide (v.toInt < 64)) := by
    show BitVec.ofBool (v.slt 64#32) = _
    rw [BitVec.slt_eq_decide]
    rfl
  rw [e, f, andi_bits]
  congr 1
  refine decide_eq_decide.mpr ?_
  rw [BitVec.toInt_eq_toNat_cond]
  split <;> omega

theorem toInt_small {v : BitVec 32} (h : v.toNat < 64) : v.toInt = v.toNat := by
  rw [BitVec.toInt_eq_toNat_cond, if_pos (by omega)]

/-- The integer sum of bits counts them. -/
theorem fold_bits {ι : Type} [DecidableEq ι] (p : ι → Prop) [DecidablePred p] (s : Finset ι) :
    s.fold IntOp.addi (0#32) (fun i => BitVec.setWidth 32 (BitVec.ofBool (decide (p i)))) = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem fun k => ha (Finset.mem_filter.mp k).1]
      simp only [h, decide_true]
      show BitVec.ofNat 32 1 + _ = _
      rw [← BitVec.ofNat_add, Nat.add_comm]
    · rw [if_neg h]
      simp only [h, decide_false]
      show BitVec.ofNat 32 0 + _ = _
      rw [← BitVec.ofNat_add, Nat.zero_add]

end Cert.KProof

end
-- ==== Proof.Count.lean ====
/-
# Counting the tokens of one expert

Which tokens an expert keeps: the number of tokens up to a given one that name the same expert, the row of the gathered
array that a token fills, and the fact that a row belongs to at most one token and a token to at most one row.
-/
module

public import proofs.«01_k».proof.Proof.Words

@[expose] public section

noncomputable section

namespace Cert.KProof

open Idealize.ShloMosaic

/-- How many tokens up to and including `t` name the expert that `t` names. -/
def cnt (r : Fin 512 → BitVec 32) (t : Fin 512) : ℕ := (Finset.univ.filter fun j => j ≤ t ∧ r j = r t).card

/-- Token `t` fills row `g` of the gathered array: the row's expert is the token's, and its place there the token's count. -/
def Hit (r : Fin 512 → BitVec 32) (g : ℕ) (t : Fin 512) : Prop := r t = BitVec.ofNat 32 (g / 6) ∧ cnt r t = g % 6 + 1

instance (r : Fin 512 → BitVec 32) (g : ℕ) (t : Fin 512) : Decidable (Hit r g t) := by unfold Hit; infer_instance

variable (r : Fin 512 → BitVec 32)

theorem cnt_lt {s t : Fin 512} (h : s < t) (e : r s = r t) : cnt r s < cnt r t := by
  refine Finset.card_lt_card (Finset.ssubset_iff_of_subset ?_ |>.mpr ⟨t, ?_, ?_⟩)
  · intro j hj
    obtain ⟨a, b⟩ := (Finset.mem_filter.mp hj).2
    exact Finset.mem_filter.mpr ⟨Finset.mem_univ _, a.trans h.le, b.trans e⟩
  · exact Finset.mem_filter.mpr ⟨Finset.mem_univ _, le_rfl, rfl⟩
  · intro hj
    exact absurd (Finset.mem_filter.mp hj).2.1 (not_le.mpr h)

theorem cnt_inj {s t : Fin 512} (e : r s = r t) (h : cnt r s = cnt r t) : s = t := by
  rcases lt_trichotomy s t with l | l | l
  · exact absurd h (cnt_lt r l e).ne
  · exact l
  · exact absurd h (cnt_lt r l e.symm).ne'

/-- The tokens strictly before `t` with its expert are one fewer. -/
theorem cnt_before (t : Fin 512) : cnt r t = (Finset.univ.filter fun j => j < t ∧ r j = r t).card + 1 := by
  rw [← Finset.card_insert_of_notMem (a := t) (by simp)]
  refine congrArg Finset.card (Finset.ext fun j => ?_)
  simp only [Finset.mem_filter, Finset.mem_univ, true_and, Finset.mem_insert, le_iff_lt_or_eq]
  constructor
  · rintro ⟨a | a, b⟩
    · exact .inr ⟨a, b⟩
    · exact .inl a
  · rintro (a | ⟨a, b⟩)
    · exact ⟨.inr a, a ▸ rfl⟩
    · exact ⟨.inl a, b⟩

theorem hit_token {g : ℕ} {s t : Fin 512} (a : Hit r g s) (b : Hit r g t) : s = t :=
  cnt_inj r (a.1.trans b.1.symm) (a.2.trans b.2.symm)

theorem hit_row {g h : ℕ} {t : Fin 512} (hg : g < 384) (hh : h < 384) (a : Hit r g t) (b : Hit r h t) : g = h := by
  have e := congrArg BitVec.toNat (a.1.symm.trans b.1)
  have f := a.2.symm.trans b.2
  simp only [BitVec.toNat_ofNat] at e
  omega

/-- The token has a row: its expert number is in range and at most five earlier tokens name that expert. -/
def Kept (t : Fin 512) : Prop := (r t).toNat < 64 ∧ cnt r t ≤ 6

instance (t : Fin 512) : Decidable (Kept r t) := by unfold Kept; infer_instance

/-- The row of a kept token. -/
def rowOf (t : Fin 512) : ℕ := 6 * (r t).toNat + (cnt r t - 1)

variable {r}

theorem rowOf_lt {t : Fin 512} (h : Kept r t) : rowOf r t < 384 := by
  obtain ⟨a, b⟩ := h
  unfold rowOf
  omega

theorem rowOf_div {t : Fin 512} (h : Kept r t) : rowOf r t / 6 = (r t).toNat := by
  obtain ⟨a, b⟩ := h
  unfold rowOf
  omega

theorem hit_rowOf {t : Fin 512} (h : Kept r t) : Hit r (rowOf r t) t := by
  have p := cnt_before r t
  refine ⟨?_, ?_⟩
  · rw [rowOf_div h, BitVec.ofNat_toNat, BitVec.setWidth_eq]
  · obtain ⟨a, b⟩ := h
    unfold rowOf
    omega

theorem kept_of_hit {g : ℕ} {t : Fin 512} (hg : g < 384) (h : Hit r g t) : Kept r t := by
  obtain ⟨a, b⟩ := h
  refine ⟨?_, by omega⟩
  rw [a, BitVec.toNat_ofNat]
  omega

/-- The only row that a kept token fills. -/
theorem hit_iff {g : ℕ} {t : Fin 512} (hg : g < 384) : Hit r g t ↔ Kept r t ∧ g = rowOf r t :=
  ⟨fun h => ⟨kept_of_hit hg h, hit_row r hg (rowOf_lt (kept_of_hit hg h)) h (hit_rowOf (kept_of_hit hg h))⟩,
    fun ⟨k, e⟩ => e ▸ hit_rowOf k⟩

/-- A token's row of a table that holds, in each row, the sum over the tokens that fill it: the token's own entry. -/
theorem sum_hit (x : Fin 512 → EReal) {g : ℕ} {t : Fin 512} (h : Hit r g t) :
    (∑ s : Fin 512, (if Hit r g s then 1 else 0) * x s) = x t := by
  rw [Finset.sum_eq_single t]
  · rw [if_pos h, one_mul]
  · intro s _ hs
    rw [if_neg fun k => hs (hit_token r k h), zero_mul]
  · exact fun k => absurd (Finset.mem_univ _) k

/-- What choosing a token's row gives: the row, if it has one, and 0 otherwise. -/
theorem sum_rows (G : Fin 384 → EReal) (t : Fin 512) :
    (∑ g : Fin 384, (if Hit r g t then 1 else 0) * G g) =
      if h : Kept r t then G ⟨rowOf r t, rowOf_lt h⟩ else 0 := by
  split
  · next h =>
    rw [Finset.sum_eq_single ⟨rowOf r t, rowOf_lt h⟩]
    · rw [if_pos (hit_rowOf h), one_mul]
    · intro g _ hg
      rw [if_neg fun k => hg (Fin.ext ((hit_iff g.isLt).mp k).2), zero_mul]
    · exact fun k => absurd (Finset.mem_univ _) k
  · next h =>
    refine Finset.sum_eq_zero fun g _ => ?_
    rw [if_neg fun k => h (kept_of_hit g.isLt k), zero_mul]

/-- What the result is meant to be. -/
def spec (R : Fin 512 → BitVec 32) (X : Fin 512 → Fin 256 → EReal) (W : Fin 64 → Fin 256 → Fin 512 → EReal) (i d : Fin 512) : EReal :=
  if h : Kept R i then ∑ k : Fin 256, X i k * W ⟨(R i).toNat, h.1⟩ k d else 0

end Cert.KProof

end
-- ==== Proof.Rank.lean ====
/-
# The rank of a token among those of its expert

What the kernel's one-hot and triangular products leave for each token: the number of tokens up to it that name its
expert, if the expert number is in range, and 0 otherwise.
-/
module

public import proofs.«01_k».proof.Proof.Parts
public import proofs.«01_k».proof.Proof.Count
public import Idealize.ShloMosaic.Lib.Pointwise

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

/-- The number the kernel's rank of a token is. -/
def rank (r : Fin 512 → BitVec 32) (t : Fin 512) : EReal := if (r t).toNat < 64 then ((cnt r t : ℝ) : EReal) else 0

theorem pay1_apply (rs : IVec S512x1 32) (t : Fin 512) : k0_pay1 (F := Ideal) rs (ix2 t 0) = rs (ix2 t 0) := by
  pointwise [k0_pay1]

theorem pay2_apply (rs : IVec S512x1 32) (t : Fin 512) :
    k0_pay2 (F := Ideal) rs (ix2 t 0) = rank (fun j => rs (ix2 j 0)) t := by
  pointwise [k0_pay2]
  simp only [pay1_apply, cmpi_eq_bit]
  have hs : ∀ j : Fin 512, IntOp.cmpi .sle (BitVec.ofNat 32 j.val) (BitVec.ofNat 32 t.val) = BitVec.ofBool (decide (j ≤ t)) :=
    fun j => cmpi_sle_small (by have := j.isLt; omega) (by have := t.isLt; omega)
  simp only [hs, float_bit, ite_mul, one_mul, zero_mul, mul_ite, mul_one, mul_zero]
  unfold rank
  split
  · next h =>
    have e : rs (ix2 t 0) = BitVec.ofNat 32 (rs (ix2 t 0)).toNat := by rw [BitVec.ofNat_toNat, BitVec.setWidth_eq]
    rw [Finset.sum_eq_single (⟨(rs (ix2 t 0)).toNat, h⟩ : Fin 64)]
    · rw [if_pos e]
      simp only [← ite_and, ← e]
      rw [sum_bits]
      unfold cnt
      simp only [and_comm]
    · intro k _ hk
      refine if_neg fun q => hk (Fin.ext ?_)
      have := congrArg BitVec.toNat q
      simp only [BitVec.toNat_ofNat] at this
      have hl := k.isLt
      show k.val = (rs (ix2 t 0)).toNat
      omega
    · exact fun k => absurd (Finset.mem_univ _) k
  · next h =>
    refine Finset.sum_eq_zero fun k _ => if_neg fun q => h ?_
    show (rs (ix2 t 0)).toNat < 64
    rw [q, BitVec.toNat_ofNat]
    have hl := k.isLt
    omega

/-- The kernel's test that a token fills a row: its expert is the row's and its rank the row's place. -/
theorem hit_test (r : Fin 512 → BitVec 32) {g : ℕ} (hg : g < 384) (t : Fin 512) :
    (r t = BitVec.ofNat 32 (g / 6) ∧ rank r t = (((g % 6 + 1 : ℕ) : ℝ) : EReal)) ↔ Hit r g t := by
  refine and_congr_right fun e => ?_
  have h : (r t).toNat < 64 := by rw [e, BitVec.toNat_ofNat]; omega
  unfold rank
  rw [if_pos h]
  constructor
  · intro k
    exact Nat.cast_injective (R := ℝ) (EReal.coe_injective k)
  · exact fun k => by rw [k]

end Cert.KProof

end
-- ==== Proof.Block.lean ====
/-
# What one device's block of rows holds

Each of a device's twenty-four rows takes the token that fills it (or zeros), and is multiplied by the matrix of the
row's expert: the four masked products add up to the one product.
-/
module

public import proofs.«01_k».proof.Proof.Rank

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

variable (m : (ℓ : Loc nD τ sig) → Buf (Elt Ideal) ℓ) (ρ : Dev nD → PrngReg)

/-- The quotient by six, rounded down, as the kernel computes it. -/
def floorSix (v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt 6#32 0#32)) (Scalar.extui (Scalar.cmpi .slt 6#32 0#32))))
      (IntOp.cmpi .ne (IntOp.remsi ArithUnit.vector v 6#32) 0#32))
    (IntOp.subi (IntOp.divsi ArithUnit.vector v 6#32) 1#32)
    (IntOp.divsi ArithUnit.vector v 6#32)

theorem floorSix_small {n : ℕ} (h : n < 384) : floorSix (BitVec.ofNat 32 n) = BitVec.ofNat 32 (n / 6) := by
  have k : ∀ i : Fin 384, floorSix (BitVec.ofNat 32 i.val) = BitVec.ofNat 32 (i.val / 6) := by decide
  exact k ⟨n, h⟩

/-- The mask of the rows of expert `k` of the device. -/
theorem mask_apply (r : Fin 24) {k : ℕ} (hk : k < 4) :
    (FloatOps.sitofp (F := Ideal) .f32
      (BitVec.setWidth 32 (IntOp.cmpi .eq (floorSix (BitVec.ofNat 32 r.val)) (BitVec.ofNat 32 k))) : EReal) =
      if r.val / 6 = k then 1 else 0 := by
  rw [floorSix_small (by omega), cmpi_eq_bit, float_bit]
  refine if_congr ⟨fun h => ?_, fun h => by rw [h]⟩ rfl rfl
  have := congrArg BitVec.toNat h
  simp only [BitVec.toNat_ofNat] at this
  omega

/-- The expert numbers as a function of the token. -/
def ids (c : Dev nD) : Fin 512 → BitVec 32 := fun t => rs (F := Ideal) m ρ c (ix2 t 0)

/-- Token `t`'s input, -/
def inX (c : Dev nD) (t : Fin 512) (k : Fin 256) : EReal := xs (F := Ideal) m ρ c (ix2 t k)
/-- and the device's four matrices. -/
def inW (c : Dev nD) (q : Fin 4) (k : Fin 256) (d : Fin 512) : EReal := ws (F := Ideal) m ρ c (ix3 q k d)

theorem word_eq (c : Fin 16) : Scalar.muli (word c) 4#32 = BitVec.ofNat 32 (4 * c.val) := by
  revert c
  decide

theorem slotE_apply (c : Fin 16) (t : Fin 512) (r : Fin 24) : slotE c (ix2 t r) = BitVec.ofNat 32 ((24 * c.val + r.val) / 6) := by
  unfold slotE
  rw [word_eq]
  pointwise [k0_pay3]
  show BitVec.ofNat 32 (4 * c.val) + floorSix (BitVec.ofNat 32 r.val) = _
  rw [floorSix_small (by omega), ← BitVec.ofNat_add]
  congr 1
  omega

theorem pay4_apply (t : Fin 512) (r : Fin 24) :
    k0_pay4 (F := Ideal) (iota .tc S512x24 32 [1] iota_S512x24_d1_w32) (ix2 t r) = (((r.val % 6 + 1 : ℕ) : ℝ) : EReal) := by
  pointwise [k0_pay4]
  rw [← float_ofNat (by omega)]
  refine congrArg _ ?_
  revert r
  decide

theorem pay5_apply (v : IVec S512x1 32) (t : Fin 512) (r : Fin 24) : k0_pay5 v (ix2 t r) = v (ix2 t 0) := by
  pointwise [k0_pay5]

/-- The device's row `r` holds the token that fills row `24 c + r` of the gathered array, or zeros. -/
theorem slotX_apply (c : Fin 16) (r : Fin 24) (k : Fin 256) :
    slotX (F := Ideal) m ρ c (ix2 r k) =
      ∑ t : Fin 512, (if Hit (ids m ρ c) (24 * c.val + r.val) t then 1 else 0) * inX m ρ c t k := by
  unfold slotX
  pointwise [k0_pay6]
  refine Finset.sum_congr rfl fun t _ => ?_
  rw [pay5_apply, pay1_apply, slotE_apply, pay2_apply, pay4_apply, cmpi_eq_bit, andi_bits, float_bit]
  refine congrArg (· * inX m ρ c t k) (if_congr ?_ rfl rfl)
  rw [← hit_test (ids m ρ c) (by have := r.isLt; have := c.isLt; omega) t, show (24 * c.val + r.val) % 6 = r.val % 6 by omega]
  rfl

theorem pay8_apply (rk : FVec Ideal S512x1 .f32) (e : IVec S512x24 32) (q : FVec Ideal S512x24 .f32) (b : IVec S512x24 32)
    (x : FVec Ideal S512x256 .f32) (w : FVec Ideal S1x256x512 .f32) (r : Fin 24) (d : Fin 512) :
    k0_pay8 rk e q b x w (ix2 r d) =
      (if r.val / 6 = 0 then 1 else 0) * ∑ k : Fin 256, k0_pay6 rk e q b x (ix2 r k) * w (ix3 0 k d) := by
  pointwise [k0_pay8]
  exact Ideal.mul_congr (mask_apply r (k := 0) (by omega)) rfl

theorem pay9_apply (S : FVec Ideal S24x256 .f32) (z a : FVec Ideal S24x512 .f32) (w : FVec Ideal S1x256x512 .f32) (r : Fin 24) (d : Fin 512) :
    k0_pay9 S rowI z a w (ix2 r d) =
      z (ix2 r d) + a (ix2 r d) + (if r.val / 6 = 1 then 1 else 0) * ∑ k : Fin 256, S (ix2 r k) * w (ix3 0 k d) := by
  pointwise [k0_pay9, rowI]
  exact Ideal.add_congr rfl (Ideal.mul_congr (mask_apply r (k := 1) (by omega)) rfl)

theorem pay12_apply (S : FVec Ideal S24x256 .f32) (a : FVec Ideal S24x512 .f32) (w : FVec Ideal S1x256x512 .f32) (r : Fin 24) (d : Fin 512) :
    k0_pay12 S rowI a 6#32 (k0_pay10 rowI) (k0_pay11 rowI) 0#32 w (ix2 r d) =
      a (ix2 r d) + (if r.val / 6 = 2 then 1 else 0) * ∑ k : Fin 256, S (ix2 r k) * w (ix3 0 k d) := by
  pointwise [k0_pay12, k0_pay10, k0_pay11, rowI]
  exact Ideal.add_congr rfl (Ideal.mul_congr (mask_apply r (k := 2) (by omega)) rfl)

theorem pay15_apply (S : FVec Ideal S24x256 .f32) (a : FVec Ideal S24x512 .f32) (w : FVec Ideal S1x256x512 .f32) (r : Fin 24) (d : Fin 512) :
    k0_pay15 S a (k0_pay13 rowI) (k0_pay14 rowI) w (ix2 r d) =
      a (ix2 r d) + (if r.val / 6 = 3 then 1 else 0) * ∑ k : Fin 256, S (ix2 r k) * w (ix3 0 k d) := by
  pointwise [k0_pay15, k0_pay13, k0_pay14, rowI]
  exact Ideal.add_congr rfl (Ideal.mul_congr (mask_apply r (k := 3) (by omega)) rfl)

theorem pay7_apply (i : S24x512.Idx) : k0_pay7 (F := Ideal) i = 0 := by
  pointwise [k0_pay7]

/-- One of the four terms is the product with the row's expert and the others are zero. -/
theorem four_terms (P : Fin 4 → EReal) (q : Fin 4) :
    (0 + (if q.val = 0 then 1 else 0) * P 0 + (if q.val = 1 then 1 else 0) * P 1) + (if q.val = 2 then 1 else 0) * P 2 +
      (if q.val = 3 then 1 else 0) * P 3 = P q := by
  fin_cases q <;> simp

/-- A load of expert matrix `q`, one entry. -/
theorem wk_read (c : Dev nD) (q : Fin 4) (inb : ∀ a, (![q.val, 0, 0] : Fin 3 → ℕ) a + S1x256x512.size a ≤ S4x256x512.size a)
    (k : Fin 256) (d : Fin 512) :
    wM.view.readAt (Elt Ideal) (Rect.unit (s := S4x256x512) ![q.val, 0, 0] S1x256x512.size inb).toLoadRect (ws (F := Ideal) m ρ c) (ix3 0 k d) =
      inW m ρ c q k d := by
  refine congrArg (ws (F := Ideal) m ρ c) (funext fun a => Fin.ext ?_)
  fin_cases a
  · show q.val + 1 * 0 = q.val
    omega
  · show 0 + 1 * k.val = k.val
    omega
  · show 0 + 1 * d.val = d.val
    omega

/-- Row `r` of the device's block: its row of tokens times the matrix of the row's expert. -/
theorem blkC_apply (c : Fin 16) (r : Fin 24) (d : Fin 512) :
    blkC (F := Ideal) m ρ c (ix2 r d) =
      ∑ k : Fin 256, slotX (F := Ideal) m ρ c (ix2 r k) * inW m ρ c ⟨r.val / 6, by omega⟩ k d := by
  unfold blkC acc2 acc1 acc0
  rw [pay15_apply, pay12_apply, pay9_apply, pay8_apply, pay7_apply]
  refine Eq.trans ?_ (four_terms (fun q => ∑ k : Fin 256, slotX (F := Ideal) m ρ c (ix2 r k) * inW m ρ c q k d) ⟨r.val / 6, by omega⟩)
  have w0 : ∀ k, wk0 (F := Ideal) m ρ c (ix3 0 k d) = inW m ρ c 0 k d := fun k => wk_read m ρ c 0 _ k d
  have w1 : ∀ k, wk1 (F := Ideal) m ρ c (ix3 0 k d) = inW m ρ c 1 k d := fun k => wk_read m ρ c 1 _ k d
  have w2 : ∀ k, wk2 (F := Ideal) m ρ c (ix3 0 k d) = inW m ρ c 2 k d := fun k => wk_read m ρ c 2 _ k d
  have w3 : ∀ k, wk3 (F := Ideal) m ρ c (ix3 0 k d) = inW m ρ c 3 k d := fun k => wk_read m ρ c 3 _ k d
  simp only [w0, w1, w2, w3]
  rfl

end Cert.KProof

end
-- ==== Proof.Result.lean ====
/-
# What the kernel's result holds

Each row of the result picks its token's row of the gathered array: the token's input times its expert's matrix when the
expert keeps the token, and zeros otherwise.
-/
module

public import proofs.«01_k».proof.Proof.Block
public import proofs.«01_k».proof.Proof.Local

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

variable (m : (ℓ : Loc nD τ sig) → Buf (Elt Ideal) ℓ) (ρ : Dev nD → PrngReg)

/-- A row's place among the six of its expert, from one, as the kernel computes it. -/
def place (v : BitVec 32) : BitVec 32 :=
  IntOp.addi
    (Scalar.select
      (IntOp.andi
        (IntOp.xori
          (IntOp.cmpi .slt (IntOp.remsi ArithUnit.vector v (Scalar.select (Scalar.cmpi .eq 6#32 0#32) 1#32 6#32)) 0#32)
          (Scalar.cmpi .slt (Scalar.select (Scalar.cmpi .eq 6#32 0#32) 1#32 6#32) 0#32))
        (IntOp.cmpi .ne (IntOp.remsi ArithUnit.vector v (Scalar.select (Scalar.cmpi .eq 6#32 0#32) 1#32 6#32)) 0#32))
      (IntOp.addi (IntOp.remsi ArithUnit.vector v (Scalar.select (Scalar.cmpi .eq 6#32 0#32) 1#32 6#32))
        (Scalar.select (Scalar.cmpi .eq 6#32 0#32) 1#32 6#32))
      (IntOp.remsi ArithUnit.vector v (Scalar.select (Scalar.cmpi .eq 6#32 0#32) 1#32 6#32)))
    1#32

theorem place_small (g : Fin 384) : place (BitVec.ofNat 32 g.val) = BitVec.ofNat 32 (g.val % 6 + 1) := by
  revert g
  decide

/-- One entry of the matrix that selects rows. -/
theorem sel_test (r : Fin 512 → BitVec 32) (t : Fin 512) (g : Fin 384)
    [Decidable (rank r t = FloatOps.sitofp (F := Ideal) .f32 (place (BitVec.ofNat 32 g.val)))] :
    (FloatOps.sitofp (F := Ideal) .f32 (BitVec.setWidth 32
      (IntOp.andi (IntOp.cmpi .eq (r t) (floorSix (BitVec.ofNat 32 g.val)))
        (BitVec.ofBool (decide (rank r t = FloatOps.sitofp (F := Ideal) .f32 (place (BitVec.ofNat 32 g.val))))))) : EReal) =
      if Hit r g.val t then 1 else 0 := by
  rw [cmpi_eq_bit, andi_bits, float_bit]
  refine if_congr ?_ rfl rfl
  rw [floorSix_small g.isLt, place_small, float_ofNat (by omega), hit_test r g.isLt t]

theorem sel0_apply (c : Dev nD) (i : Fin 128) (g : Fin 384) :
    sel0 (F := Ideal) m ρ c (ix2 i g) = if Hit (ids m ρ c) g.val ⟨0 + i.val, by omega⟩ then (1 : EReal) else 0 := by
  unfold sel0
  pointwise [k0_pay21, k0_pay20, k0_pay16, k0_pay17, k0_pay18, k0_pay19]
  rw [pay1_apply, pay2_apply]
  exact sel_test (ids m ρ c) _ g

theorem sel1_apply (c : Dev nD) (i : Fin 128) (g : Fin 384) :
    sel1 (F := Ideal) m ρ c (ix2 i g) = if Hit (ids m ρ c) g.val ⟨128 + i.val, by omega⟩ then (1 : EReal) else 0 := by
  unfold sel1
  pointwise [k0_pay22, k0_pay20, k0_pay16, k0_pay17, k0_pay18, k0_pay19]
  rw [pay1_apply, pay2_apply]
  exact sel_test (ids m ρ c) _ g

theorem sel2_apply (c : Dev nD) (i : Fin 128) (g : Fin 384) :
    sel2 (F := Ideal) m ρ c (ix2 i g) = if Hit (ids m ρ c) g.val ⟨256 + i.val, by omega⟩ then (1 : EReal) else 0 := by
  unfold sel2
  pointwise [k0_pay23, k0_pay20, k0_pay16, k0_pay17, k0_pay18, k0_pay19]
  rw [pay1_apply, pay2_apply]
  exact sel_test (ids m ρ c) _ g

theorem sel3_apply (c : Dev nD) (i : Fin 128) (g : Fin 384) :
    sel3 (F := Ideal) m ρ c (ix2 i g) = if Hit (ids m ρ c) g.val ⟨384 + i.val, by omega⟩ then (1 : EReal) else 0 := by
  unfold sel3
  pointwise [k0_pay24, k0_pay20, k0_pay16, k0_pay17, k0_pay18, k0_pay19]
  rw [pay1_apply, pay2_apply]
  exact sel_test (ids m ρ c) _ g

/-- The gathered array by row and column. -/
def row (g : Fin 384) (d : Fin 512) : EReal := gath (F := Ideal) m ρ (ix2 g d)

/-- The product of a selection matrix and the gathered array, all four being one function. -/
theorem pay25_apply (S : FVec Ideal S128x384 .bf16) (i : Fin 128) (d : Fin 512) :
    k0_pay25 S (gath m ρ) (ix2 i d) = ∑ g : Fin 384, S (ix2 i g) * row m ρ g d := by
  pointwise [k0_pay25]
  rfl

/-- One entry of the result as a sum over the rows of the gathered array. -/
theorem outAt_apply (c : Dev nD) (i d : Fin 512) :
    (show EReal from outAt (F := Ideal) m ρ c (ix2 i d)) = ∑ g : Fin 384, (if Hit (ids m ρ c) g.val i then 1 else 0) * row m ρ g d := by
  have key : ∀ (S : FVec Ideal S128x384 .bf16) (o : ℕ) (ho : o + 128 ≤ 512),
      (∀ (j : Fin 128) (g : Fin 384), S (ix2 j g) = if Hit (ids m ρ c) g.val ⟨o + j.val, by omega⟩ then (1 : EReal) else 0) →
      o + i.val % 128 = i.val →
      k0_pay25 S (gath m ρ) (ix2 (⟨i.val % 128, Nat.mod_lt _ (by decide)⟩ : Fin 128) d) =
        ∑ g : Fin 384, (if Hit (ids m ρ c) g.val i then 1 else 0) * row m ρ g d := by
    intro S o ho hS e
    rw [pay25_apply]
    refine Finset.sum_congr rfl fun g _ => ?_
    rw [hS]
    have e' : (⟨o + i.val % 128, by omega⟩ : Fin 512) = i := Fin.ext e
    rw [e']
  have hl := i.isLt
  unfold outAt
  show @Eq EReal (if i.val < 128 then _ else if i.val < 256 then _ else if i.val < 384 then _ else _) _
  split_ifs with h0 h1 h2
  · exact key (sel0 m ρ c) 0 (by omega) (sel0_apply m ρ c) (by omega)
  · exact key (sel1 m ρ c) 128 (by omega) (sel1_apply m ρ c) (by omega)
  · exact key (sel2 m ρ c) 256 (by omega) (sel2_apply m ρ c) (by omega)
  · exact key (sel3 m ρ c) 384 (by omega) (sel3_apply m ρ c) (by omega)

/-- One entry of the gathered array. -/
theorem row_apply (g : Fin 384) (d : Fin 512) :
    row m ρ g d = ∑ k : Fin 256, (∑ t : Fin 512, (if Hit (ids m ρ (⟨g.val / 24, by omega⟩ : Fin 16)) g.val t then 1 else 0) *
      inX m ρ (⟨g.val / 24, by omega⟩ : Fin 16) t k) * inW m ρ (⟨g.val / 24, by omega⟩ : Fin 16) ⟨g.val % 24 / 6, by omega⟩ k d := by
  refine (blkC_apply m ρ ⟨g.val / 24, by omega⟩ ⟨g.val % 24, by omega⟩ d).trans ?_
  refine Finset.sum_congr rfl fun k _ => ?_
  rw [slotX_apply]
  simp only [Nat.div_add_mod]

variable {m ρ} {R : Fin 512 → BitVec 32} {X : Fin 512 → Fin 256 → EReal} {W : Fin 64 → Fin 256 → Fin 512 → EReal}

/-- On every device the result is the one meant, when the tokens and expert numbers are the same everywhere and each
    device has its four of the matrices. -/
theorem outAt_spec (hR : ∀ c, ids m ρ c = R) (hX : ∀ c, inX m ρ c = X)
    (hW : ∀ (c : Fin 16) (q : Fin 4) k d, inW m ρ c q k d = W ⟨4 * c.val + q.val, by omega⟩ k d) (c : Dev nD) (i d : Fin 512) :
    (show EReal from outAt (F := Ideal) m ρ c (ix2 i d)) = spec R X W i d := by
  refine (outAt_apply m ρ c i d).trans ?_
  rw [hR, sum_rows (fun g => row m ρ g d) i]
  unfold spec
  refine dite_congr rfl (fun h => ?_) fun _ => rfl
  rw [row_apply]
  refine Finset.sum_congr rfl fun k _ => ?_
  rw [hR, hX, sum_hit (fun t => X t k) (hit_rowOf h), hW]
  refine congrArg (X i k * ·) (congrArg (W · k d) (Fin.ext ?_))
  have e := rowOf_div h
  show 4 * (rowOf R i / 24) + rowOf R i % 24 / 6 = (R i).toNat
  omega

end Cert.KProof

end
-- ==== Proof.Final.lean ====
/-
# The values the run reads and leaves

The kernel's staged operands are the arguments as launched, the result array ends as the result of the body, and the
result's entries are the ones meant.
-/
module

public import proofs.«01_k».proof.Proof.Run
public import proofs.«01_k».proof.Proof.Result
public import Idealize.ShloMosaic.Lib.Layout

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 16384

section
variable {F : FTy → Type} [FloatOps F] (m : (ℓ : Loc nD τ sig) → Buf (Elt F) ℓ) (ρ : Dev nD → PrngReg) (c : Dev nD)

theorem xs_eq : xs m ρ c = m ((c : Thread nD τ).loc main_arg0) :=
  Memref.read_access_unit_zero (Elt F) main_arg0
    (show (fun a => (win0_0.index t0_0) a * main_arg0.ty.shape.size a) = fun _ => 0 from
      funext fun a => by fin_cases a <;> decide) (fun a => by fin_cases a <;> decide) _

theorem rs_eq : rs m ρ c = m ((c : Thread nD τ).loc main_arg2) :=
  Memref.read_access_unit_zero (Elt F) main_arg2
    (show (fun a => (win0_1.index t0_0) a * main_arg2.ty.shape.size a) = fun _ => 0 from
      funext fun a => by fin_cases a <;> decide) (fun a => by fin_cases a <;> decide) _

theorem ws_eq : ws m ρ c = m ((c : Thread nD τ).loc main_arg3) :=
  Memref.read_access_unit_zero (Elt F) main_arg3
    (show (fun a => (win0_2.index t0_0) a * main_arg3.ty.shape.size a) = fun _ => 0 from
      funext fun a => by fin_cases a <;> decide) (fun a => by fin_cases a <;> decide) _

theorem read_res (f : Buf (Elt F) ((c : Thread nD τ).loc main_v1)) : (win0_3.blk t0_0).view.read (Elt F) f = f :=
  Memref.read_access_unit_zero (Elt F) main_v1
    (show (fun a => (win0_3.index t0_0) a * main_v1.ty.shape.size a) = fun _ => 0 from
      funext fun a => by fin_cases a <;> decide) (fun a => by fin_cases a <;> decide) f

/-- The result array ends as what the body leaves. -/
theorem final_3 : finalA m ρ c (3 : Fin 4) = outAt m ρ c := by
  have hw : ((cfg0.win 3).blk t0_0).view.read (Elt F) ((dats m ρ 0 c).arrAt 3 cfg0.N) = (dats m ρ 0 c).flushed 3 t0_0 := by
    rw [show cfg0.N = t0_0.val + 1 from rfl, (dats m ρ 0 c).arrAt_succ (3 : Fin 4) t0_0, flush0_3, if_pos rfl]
    exact View.read_write_univ _ _
  have hf : (dats m ρ 0 c).flushed 3 t0_0 = outAt m ρ c := rfl
  exact (read_res c _).symm.trans (hw.trans hf)

/-- The run: the result array of every device as the body leaves it, the arguments unchanged. -/
theorem value_run : θ_run defs (onTc (τ := τ) (main (F := F))) (s₀ m ρ) (fun r => ∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨((h.1 c).1 (3 : Fin 4)).trans (final_3 m ρ c), ((h.1 c).1 (0 : Fin 4)).trans (final_0 m ρ c),
    (h.1 c).2, ((h.1 c).1 (1 : Fin 4)).trans (final_1 m ρ c), ((h.1 c).1 (2 : Fin 4)).trans (final_2 m ρ c)⟩) (run_main m ρ)
end

/-- From arguments that are the same on every device, and the matrices cut in sixteen, every device's result is the one
    meant. -/
theorem out_eq (m : (ℓ : Loc nD τ sig) → Buf (Elt Ideal) ℓ) (ρ : Dev nD → PrngReg) (a0 : FVec Ideal S512x256 .f32)
    (a2 : IVec S512x1 32) (a3 : FVec Ideal ⟨3, ![64, 256, 512]⟩ .f32)
    (h0 : ∀ c : Dev nD, m ((c : Thread nD τ).loc main_arg0) = a0) (h2 : ∀ c : Dev nD, m ((c : Thread nD τ).loc main_arg2) = a2)
    (h3 : ∀ c : Dev nD, m ((c : Thread nD τ).loc main_arg3) = Layout.block ⟨3, ![4, 256, 512]⟩ ⟨3, ![64, 256, 512]⟩ 0 16 c a3)
    (c : Dev nD) (i d : Fin 512) :
    (show EReal from outAt (F := Ideal) m ρ c (ix2 i d)) =
      spec (fun t => a2 (ix2 t 0)) (fun t k => a0 (ix2 t k)) (fun e k d => a3 (ix3 e k d)) i d := by
  refine outAt_spec (fun c => ?_) (fun c => ?_) (fun c q k d => ?_) c i d
  · unfold ids
    rw [rs_eq, h2]
  · unfold inX
    rw [xs_eq, h0]
  · unfold inW
    rw [ws_eq, h3, Layout.block_apply]
    refine congrArg a3 (funext fun a => Fin.ext ?_)
    fin_cases a
    · show c.val * 4 + q.val = 4 * c.val + q.val
      omega
    · rfl
    · rfl

end Cert.KProof

end
-- ==== Proof.Ref.lean ====
/-
# What the reference computes

The reference counts the earlier tokens of each token's expert, reads the expert's matrix for each token, multiplies, and
keeps the product where the count is below six and the expert number in range.
-/
module

public import proofs.«01_k».proof.Proof.Gen.ReferenceIdeal.Run
public import proofs.«01_k».proof.Proof.Count
public import Idealize.ShloMosaic.Lib.Pointwise

@[expose] public section

noncomputable section

namespace Cert.KProof

open Cert.ReferenceIdeal Cert.ReferenceIdeal.Gen

open Idealize.ShloMosaic
open Idealize.ShloMosaic.TcCoe

set_option maxRecDepth 16384

/-- The reference's result as a function of its inputs. -/
def refOut (a0 : FVec Ideal S512x256 .f32) (a2 : IVec S512x1 32) (a3 : FVec Ideal S64x256x512 .f32) : FVec Ideal S512x512 .f32 :=
  select (broadcastInDim S512x512 ![0, 1] bcast_S512x1_S512x512_0_1 (broadcastInDim S512x1 ![0] bcast_S512_S512x1_0 (andi (andi (cmpi .slt (Host.reduce IntOp.addi (extui 32 (andi (cmpi .slt (broadcastInDim S512x512 ![0, 1] bcast_S1x512_S512x512_0_1 (broadcastInDim S1x512 ![1] bcast_S512_S1x512_1 (iotaInDim S512 32 0))) (broadcastInDim S512x512 ![0, 1] bcast_S512x1_S512x512_0_1 (broadcastInDim S512x1 ![0] bcast_S512_S512x1_0 (iotaInDim S512 32 0)))) (cmpi .eq (broadcastInDim S512x512 ![0, 1] bcast_S1x512_S512x512_0_1 (broadcastInDim S1x512 ![1] bcast_S512_S1x512_1 (shapeCast _ a2 shapeCasts_S512x1_S512))) (broadcastInDim S512x512 ![0, 1] bcast_S512x1_S512x512_0_1 (broadcastInDim S512x1 ![0] bcast_S512_S512x1_0 (shapeCast _ a2 shapeCasts_S512x1_S512))))) natLt_1_32) (constantI S_ 32 0#32) reducesTo_S512x512_S512_d1 h_S_) (broadcastInDim S512 ![] bcast_S_S512 (constantI S_ 32 6#32))) (cmpi .sge (shapeCast _ a2 shapeCasts_S512x1_S512) (broadcastInDim S512 ![] bcast_S_S512 (constantI S_ 32 0#32)))) (cmpi .slt (shapeCast _ a2 shapeCasts_S512x1_S512) (broadcastInDim S512 ![] bcast_S_S512 (constantI S_ 32 64#32)))))) (Host.dotGeneral dot_S512x256_S512x256x512_S512x512_1_1_n_2_0_0 none a0 (Host.gather gather_S64x256x512_S512x1_S512x256x512_12_0_n_n_0_1_1256512 a3 (broadcastInDim S512x1 ![0] bcast_S512_S512x1_0 (select (cmpi .slt (shapeCast _ a2 shapeCasts_S512x1_S512) (broadcastInDim S512 ![] bcast_S_S512 (constantI S_ 32 0#32))) (addi (shapeCast _ a2 shapeCasts_S512x1_S512) (broadcastInDim S512 ![] bcast_S_S512 (constantI S_ 32 64#32))) (shapeCast _ a2 shapeCasts_S512x1_S512))))) (broadcastInDim S512x512 ![] bcast_S_S512x512 (id (constant S_ .f32 0x00000000#32)))

/-- The gather reads the matrix that the index names. -/
theorem gather_apply (a3 : FVec Ideal S64x256x512 .f32) (idx : IVec S512x1 32) (i : Fin 512) (k : Fin 256) (d : Fin 512) :
    Host.gather gather_S64x256x512_S512x1_S512x256x512_12_0_n_n_0_1_1256512 a3 idx (ix3 i k d) =
      a3 (ix3 (⟨min (idx (ix2 i 0)).toInt.toNat 63, by omega⟩ : Fin 64) k d) := by
  unfold Host.gather
  refine congrArg a3 (funext fun a => Fin.ext ?_)
  fin_cases a
  · show min (idx _).toInt.toNat 63 + 0 + 0 = min (idx (ix2 i 0)).toInt.toNat 63
    refine congrArg (fun v => min (idx v).toInt.toNat 63) (funext fun b => Fin.ext ?_)
    fin_cases b <;> rfl
  · show 0 + 0 + k.val = k.val
    omega
  · show 0 + 0 + d.val = d.val
    omega

/-- One entry of the reference's result. -/
theorem refOut_apply (a0 : FVec Ideal S512x256 .f32) (a2 : IVec S512x1 32) (a3 : FVec Ideal S64x256x512 .f32) (i d : Fin 512) :
    refOut a0 a2 a3 (ix2 i d) =
      spec (fun t => a2 (ix2 t 0)) (fun t k => a0 (ix2 t k)) (fun e k d => a3 (ix3 e k d)) i d := by
  unfold refOut
  pointwise
  have hs : ∀ j : Fin 512, IntOp.cmpi .slt (BitVec.ofNat 32 j.val) (BitVec.ofNat 32 i.val) = BitVec.ofBool (decide (j < i)) :=
    fun j => cmpi_slt_small (by omega) (by omega)
  have hc := cnt_before (fun t => a2 (ix2 t 0)) i
  have hn : (Finset.univ.filter fun j : Fin 512 => j < i ∧ a2 (ix2 j 0) = a2 (ix2 i 0)).card ≤ 512 :=
    (Finset.card_le_univ _).trans (by simp)
  simp only [hs, cmpi_eq_bit, andi_bits, fold_bits]
  rw [show (6#32) = BitVec.ofNat 32 6 from rfl, cmpi_slt_small (by omega) (by omega)]
  have assoc : ∀ a b c : BitVec 1, IntOp.andi (IntOp.andi a b) c = IntOp.andi a (IntOp.andi b c) := by decide
  rw [assoc, in_range, andi_bits]
  unfold spec
  by_cases h : Kept (fun t => a2 (ix2 t 0)) i
  · have h64 : (a2 (ix2 i 0)).toNat < 64 := h.1
    rw [dif_pos h, decide_eq_true ⟨by have := h.2; omega, h64⟩]
    rw [show BitVec.ofBool true = 1#1 from rfl, ValueIdx.select_one]
    refine Finset.sum_congr rfl fun k _ => ?_
    rw [gather_apply]
    refine congrArg (a0 (ix2 i k) * ·) (congrArg (fun e => a3 (ix3 e k d)) (Fin.ext ?_))
    pointwise
    have hneg : IntOp.cmpi .slt (a2 (ix2 i 0)) 0#32 = 0#1 := by
      show BitVec.ofBool ((a2 (ix2 i 0)).slt 0#32) = _
      rw [BitVec.slt_eq_decide, toInt_small h64, decide_eq_false (by show ¬ ((a2 (ix2 i 0)).toNat : ℤ) < 0; omega)]
      rfl
    rw [hneg, ValueIdx.select_zero, toInt_small h64]
    omega
  · rw [dif_neg h, decide_eq_false fun q => h ⟨q.2, by omega⟩]
    rw [show BitVec.ofBool false = 0#1 from rfl, ValueIdx.select_zero]
    exact Ideal.ofBits_zero_f32

end Cert.KProof

end
-- ==== Proof.SameText.lean ====
/- # One text

The kernel's two programs, the printed one and the one for the extended reals, have the same bodies. -/
module

public import proofs.«01_k».proof.Defs
public import proofs.«01_k».proof.Proof.Gen.Kernel
public import proofs.«01_k».proof.Proof.Gen.KernelIdeal

@[expose] public section

noncomputable section

namespace Cert.KProof

open Idealize.ShloMosaic

variable {F : FTy → Type} [FloatOps F]

theorem defs₀_same : (Cert.Kernel.defs₀ (F := F)) = Cert.KernelIdeal.defs₀ (F := F) := by
  unfold Cert.Kernel.defs₀ Cert.KernelIdeal.defs₀
  congr 1
  funext l p
  match l, p with
  | 0, (t, s) => rfl
  | ⟨_ + 1, h⟩, _ => exact absurd h (Nat.not_lt.2 (Nat.le_add_left _ _))

/-- The two body tables are the same. -/
theorem defs_same : (Cert.Kernel.defs (F := F)) = Cert.KernelIdeal.defs (F := F) := by
  unfold Cert.Kernel.defs Cert.KernelIdeal.defs
  exact congrArg (Pipeline.defs _) defs₀_same

end Cert.KProof

end
-- ==== Proof.lean ====
/- # The proof

The claims, assembled from the run of the kernel on the mesh and the run of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Ref
public import proofs.«01_k».proof.Proof.SameText
public import Idealize.ShloMosaic.Adequacy
public import Idealize.ShloMosaic.Init

@[expose] public section

noncomputable section

namespace Cert.Proof

open Idealize.ShloMosaic Idealize.SL.Sem Cert.Kernel

/-- The kernel as printed runs and leaves its arguments unchanged. -/
theorem frame_kernel : Cert.quiescent_Kernel := fun m ρ _ => by
  rw [Cert.KProof.defs_same]
  exact (θ_run Cert.KernelIdeal.defs _ _).mono (fun _ h => h) (Cert.KProof.frame_run (F := Bits) m ρ)

/-- The same over the extended reals. -/
theorem frame_ideal : Cert.quiescent_KernelIdeal := fun m ρ _ =>
  (θ_run Cert.KernelIdeal.defs _ _).mono (fun _ h => h) (Cert.KProof.frame_run (F := Ideal) m ρ)

/-- The reference runs and leaves its arguments unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device of the kernel leaves what the reference computes from the whole arguments. -/
theorem value : Cert.algebraic_KernelIdeal_ReferenceIdeal := by
  intro m g m' g' _ h
  refine ⟨Cert.KProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r hr c => ⟨(hr c).1.trans (funext fun j => ?_), (hr c).2⟩)
      (Cert.KProof.value_run (F := Ideal) m g)
    obtain ⟨i, d, rfl⟩ : ∃ (i d : Fin 512), j = ix2 i d := ⟨j 0, j 1, eq_ix2 j⟩
    exact (Cert.KProof.out_eq m g _ _ _ (fun c => (h c).1) (fun c => (h c).2.2.1) (fun c => (h c).2.2.2) c i d).trans
      (Cert.KProof.refOut_apply _ _ _ i d).symm
  · exact (θ_run Cert.ReferenceIdeal.defs _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
